-- ==== Defs.lean ====
def Pre_Kernel [hPre_hashes : Cert.Pre_hashes.Facts] (m : (ℓ : Loc Cert.Kernel.nD Cert.Kernel.τ Cert.Kernel.sig) → Buf (Elt Bits) ℓ) : Prop :=
  ∀ c : Dev Cert.Kernel.nD,
    (Cert.Pre_hashes.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_hashes : Cert.Pre_hashes.Facts] (m : (ℓ : Loc Cert.KernelIdeal.nD Cert.KernelIdeal.τ Cert.KernelIdeal.sig) → Buf (Elt Ideal) ℓ) : Prop :=
  ∀ c : Dev Cert.KernelIdeal.nD,
    (Cert.Pre_hashes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_lattice [hPre_lattice : Cert.Pre_lattice.Facts] (m : (ℓ : Loc Cert.KernelIdeal.nD Cert.KernelIdeal.τ Cert.KernelIdeal.sig) → Buf (Elt Ideal) ℓ) : Prop :=
  ∀ c : Dev Cert.KernelIdeal.nD,
    (Cert.Pre_lattice.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_lattice.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lattice [hPre_lattice : Cert.Pre_lattice.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lattice.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_lattice.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] [hPre_hashes : Cert.Pre_hashes.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_hashes : Cert.Pre_hashes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_lattice [hKernelIdeal : Cert.KernelIdeal.Facts] [hPre_lattice : Cert.Pre_lattice.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lattice m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_lattice [hReferenceIdeal : Cert.ReferenceIdeal.Facts] [hPre_lattice : Cert.Pre_lattice.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lattice m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "s1" .f32 0x3C23D70A#32 ((1 / 100 : ℝ) : EReal)
  ∧ IdealRules.named_const.Statement Cert.KernelIdeal.κ "a1" .f32 0x3F088889#32 ((8 / 15 : ℝ) : EReal)
  ∧ IdealRules.named_const.Statement Cert.KernelIdeal.κ "s2" .f32 0x3CA3D70A#32 ((1 / 50 : ℝ) : EReal)
  ∧ IdealRules.named_const.Statement Cert.KernelIdeal.κ "a2" .f32 0x3E888889#32 ((4 / 15 : ℝ) : EReal)
  ∧ IdealRules.named_const.Statement Cert.KernelIdeal.κ "s4" .f32 0x3D23D70A#32 ((1 / 25 : ℝ) : EReal)
  ∧ IdealRules.named_const.Statement Cert.KernelIdeal.κ "a4" .f32 0x3E088889#32 ((2 / 15 : ℝ) : EReal)
  ∧ IdealRules.named_const.Statement Cert.KernelIdeal.κ "s8" .f32 0x3DA3D70A#32 ((2 / 25 : ℝ) : EReal)
  ∧ IdealRules.named_const.Statement Cert.KernelIdeal.κ "a8" .f32 0x3D888889#32 ((1 / 15 : ℝ) : EReal)

def algebraic_KernelIdeal_ReferenceIdeal_pre_lattice [hKernelIdeal : Cert.KernelIdeal.Facts] [hReferenceIdeal : Cert.ReferenceIdeal.Facts] [hPre_lattice : Cert.Pre_lattice.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lattice m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v491) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_hashes : Cert.Pre_hashes.Facts) (hPre_lattice : Cert.Pre_lattice.Facts),
    quiescent_Kernel (hKernel := hKernel) (hPre_hashes := hPre_hashes)
    ∧ quiescent_KernelIdeal (hKernelIdeal := hKernelIdeal) (hPre_hashes := hPre_hashes)
    ∧ quiescent_KernelIdeal_pre_lattice (hKernelIdeal := hKernelIdeal) (hPre_lattice := hPre_lattice)
    ∧ quiescent_ReferenceIdeal (hReferenceIdeal := hReferenceIdeal)
    ∧ quiescent_ReferenceIdeal_pre_lattice (hReferenceIdeal := hReferenceIdeal) (hPre_lattice := hPre_lattice)
    ∧ preserves_Kernel_KernelIdeal
    ∧ algebraic_KernelIdeal_ReferenceIdeal_pre_lattice (hKernelIdeal := hKernelIdeal) (hReferenceIdeal := hReferenceIdeal) (hPre_lattice := hPre_lattice)
-- ==== Pre_hashes.lean ====
abbrev S4x512x512 : Shape := ⟨3, ![4, 512, 512]⟩
abbrev S4x512 : Shape := ⟨2, ![4, 512]⟩
abbrev S_ : Shape := ⟨0, ![]⟩

class Facts : Prop where
  bcast_S_S4x512 : S_.BroadcastsInDim S4x512 (![] : Fin 0 → Fin S4x512.rank)

variable [Facts]

def fn {F : FTy → Type} [FloatOps F] (main_arg0 : FVec F S4x512x512 .f32) (main_arg1 : FVec F S4x512x512 .f32) (main_arg2 : FVec F S4x512x512 .f32) (main_arg3 : IVec S4x512 32) : IVec S4x512 1 :=
  let main_c : IVec S_ 32 := constantI S_ 32 0#32
  let main_v0 : IVec S4x512 32 := broadcastInDim S4x512 ![] bcast_S_S4x512 main_c
  let main_v1 : IVec S4x512 1 := cmpi .sge main_arg3 main_v0
  let main_c_0 : IVec S_ 32 := constantI S_ 32 256#32
  let main_v2 : IVec S4x512 32 := broadcastInDim S4x512 ![] bcast_S_S4x512 main_c_0
  let main_v3 : IVec S4x512 1 := cmpi .slt main_arg3 main_v2
  let main_v4 : IVec S4x512 1 := andi main_v1 main_v3
  main_v4
-- ==== Pre_lattice.lean ====
abbrev S4x512x512 : Shape := ⟨3, ![4, 512, 512]⟩
abbrev S4x512 : Shape := ⟨2, ![4, 512]⟩
abbrev S4x1x512 : Shape := ⟨3, ![4, 1, 512]⟩
abbrev S4 : Shape := ⟨1, ![4]⟩
abbrev S_ : Shape := ⟨0, ![]⟩
abbrev S4x512x1 : Shape := ⟨3, ![4, 512, 1]⟩
abbrev S4x1x1 : Shape := ⟨3, ![4, 1, 1]⟩

class Facts : Prop where
  slices_S4x512x512_S4x1x512_0_0_0 : S4x512x512.Slices ![0, 0, 0] S4x1x512
  shapeCasts_S4x1x512_S4x512 : S4x1x512.ShapeCasts S4x512
  bcast_S_S4 : S_.BroadcastsInDim S4 (![] : Fin 0 → Fin S4.rank)
  bcast_S4x512_S4x1x512_0_2 : S4x512.BroadcastsInDim S4x1x512 (![0, 2] : Fin 2 → Fin S4x1x512.rank)
  bcast_S4x1x512_S4x512x512_0_1_2 : S4x1x512.BroadcastsInDim S4x512x512 (![0, 1, 2] : Fin 3 → Fin S4x512x512.rank)
  bcast_S_S4x512x512 : S_.BroadcastsInDim S4x512x512 (![] : Fin 0 → Fin S4x512x512.rank)
  bcast_S4x512_S4x512x1_0_1 : S4x512.BroadcastsInDim S4x512x1 (![0, 1] : Fin 2 → Fin S4x512x1.rank)
  bcast_S4x512x1_S4x512x512_0_1_2 : S4x512x1.BroadcastsInDim S4x512x512 (![0, 1, 2] : Fin 3 → Fin S4x512x512.rank)
  bcast_S4_S4x1x1_0 : S4.BroadcastsInDim S4x1x1 (![0] : Fin 1 → Fin S4x1x1.rank)
  bcast_S4x1x1_S4x512x512_0_1_2 : S4x1x1.BroadcastsInDim S4x512x512 (![0, 1, 2] : Fin 3 → Fin S4x512x512.rank)
  bcast_S_S4x512 : S_.BroadcastsInDim S4x512 (![] : Fin 0 → Fin S4x512.rank)

variable [Facts]

def fn_part1 {F : FTy → Type} [FloatOps F] (main_arg3 : IVec S4x512 32) (main_v14 : IVec S4x512x512 1) (main_v17 : IVec S4x512x512 1) (main_v20 : IVec S4x512x512 1) : IVec S4x512x512 1 × IVec S4x512 1 :=
  let main_v21 : IVec S4x512x512 1 := andi main_v14 main_v17
  let main_v22 : IVec S4x512x512 1 := andi main_v21 main_v20
  let main_c : IVec S_ 32 := constantI S_ 32 0#32
  let main_v23 : IVec S4x512 32 := broadcastInDim S4x512 ![] bcast_S_S4x512 main_c
  let main_v24 : IVec S4x512 1 := cmpi .sge main_arg3 main_v23
  let main_c_2 : IVec S_ 32 := constantI S_ 32 256#32
  let main_v25 : IVec S4x512 32 := broadcastInDim S4x512 ![] bcast_S_S4x512 main_c_2
  let main_v26 : IVec S4x512 1 := cmpi .slt main_arg3 main_v25
  let main_v27 : IVec S4x512 1 := andi main_v24 main_v26
  (main_v22, main_v27)

def fn {F : FTy → Type} [FloatOps F] (main_arg0 : FVec F S4x512x512 .f32) (main_arg1 : FVec F S4x512x512 .f32) (main_arg2 : FVec F S4x512x512 .f32) (main_arg3 : IVec S4x512 32) : IVec S4x512x512 1 × IVec S4x512 1 :=
  let main_v0 : FVec F S4x1x512 .f32 := (extractStridedSlice S4x1x512 ![0, 0, 0] · slices_S4x512x512_S4x1x512_0_0_0) main_arg0
  let main_v1 : FVec F S4x512 .f32 := shapeCast S4x512 main_v0 shapeCasts_S4x1x512_S4x512
  let main_v2 : IVec S4 32 := iotaInDim S4 32 0
  let main_v3 : FVec F S4 .f32 := sitofp .f32 main_v2
  let main_cst : FVec F S_ .f32 := constant S_ .f32 0x42C80000#32
  let main_v4 : FVec F S4 .f32 := broadcastInDim S4 ![] bcast_S_S4 main_cst
  let main_v5 : FVec F S4 .f32 := Host.divf main_v3 main_v4
  let main_v6 : FVec F S4x1x512 .f32 := broadcastInDim S4x1x512 ![0, 2] bcast_S4x512_S4x1x512_0_2 main_v1
  let main_v7 : FVec F S4x512x512 .f32 := broadcastInDim S4x512x512 ![0, 1, 2] bcast_S4x1x512_S4x512x512_0_1_2 main_v6
  let main_v8 : IVec S4x512x512 1 := cmpf .oeq main_arg0 main_v7
  let main_cst_0 : FVec F S_ .f32 := constant S_ .f32 0x00000000#32
  let main_v9 : FVec F S4x512x512 .f32 := broadcastInDim S4x512x512 ![] bcast_S_S4x512x512 main_cst_0
  let main_v10 : IVec S4x512x512 1 := cmpf .oge main_arg0 main_v9
  let main_v11 : IVec S4x512x512 1 := andi main_v8 main_v10
  let main_cst_1 : FVec F S_ .f32 := constant S_ .f32 0x41480000#32
  let main_v12 : FVec F S4x512x512 .f32 := broadcastInDim S4x512x512 ![] bcast_S_S4x512x512 main_cst_1
  let main_v13 : IVec S4x512x512 1 := cmpf .olt main_arg0 main_v12
  let main_v14 : IVec S4x512x512 1 := andi main_v11 main_v13
  let main_v15 : FVec F S4x512x1 .f32 := broadcastInDim S4x512x1 ![0, 1] bcast_S4x512_S4x512x1_0_1 main_v1
  let main_v16 : FVec F S4x512x512 .f32 := broadcastInDim S4x512x512 ![0, 1, 2] bcast_S4x512x1_S4x512x512_0_1_2 main_v15
  let main_v17 : IVec S4x512x512 1 := cmpf .oeq main_arg1 main_v16
  let main_v18 : FVec F S4x1x1 .f32 := broadcastInDim S4x1x1 ![0] bcast_S4_S4x1x1_0 main_v5
  let main_v19 : FVec F S4x512x512 .f32 := broadcastInDim S4x512x512 ![0, 1, 2] bcast_S4x1x1_S4x512x512_0_1_2 main_v18
  let main_v20 : IVec S4x512x512 1 := cmpf .oeq main_arg2 main_v19
  fn_part1 (F := F) main_arg3 main_v14 main_v17 main_v20
-- ==== Kernel.lean ====
abbrev S4x512x512 : Shape := ⟨3, ![4, 512, 512]⟩
abbrev S4x512 : Shape := ⟨2, ![4, 512]⟩
abbrev S4x512x512x1 : Shape := ⟨4, ![4, 512, 512, 1]⟩
abbrev S4x512x512x3 : Shape := ⟨4, ![4, 512, 512, 3]⟩
abbrev S1x8x512 : Shape := ⟨3, ![1, 8, 512]⟩
abbrev S1x512x512 : Shape := ⟨3, ![1, 512, 512]⟩
abbrev S1x1x512 : Shape := ⟨3, ![1, 1, 512]⟩
abbrev S1x512 : Shape := ⟨2, ![1, 512]⟩
abbrev S1x1 : Shape := ⟨2, ![1, 1]⟩
abbrev S1 : Shape := ⟨1, ![1]⟩
abbrev S1x1x1 : Shape := ⟨3, ![1, 1, 1]⟩
abbrev S10x512 : Shape := ⟨2, ![10, 512]⟩
abbrev S512x512 : Shape := ⟨2, ![512, 512]⟩

abbrev nBuf : Space → Nat
  | .hbm => 7
  | .vmem => 4
  | .smem => 1
  | _ => 0

abbrev bufTy : (tb : Table) → Fin (tcTables nBuf tb) → BufTy
  | .hbm, ⟨0, _⟩ => ⟨S4x512x512, .f32⟩
  | .hbm, ⟨1, _⟩ => ⟨S4x512x512, .f32⟩
  | .hbm, ⟨2, _⟩ => ⟨S4x512x512, .f32⟩
  | .hbm, ⟨3, _⟩ => ⟨S4x512, .i32⟩
  | .hbm, ⟨4, _⟩ => ⟨S4x512x512, .f32⟩
  | .hbm, ⟨5, _⟩ => ⟨S4x512x512x1, .f32⟩
  | .hbm, ⟨6, _⟩ => ⟨S4x512x512x3, .f32⟩
  | .local _ .vmem, ⟨0, _⟩ => ⟨S1x8x512, .f32⟩
  | .local _ .vmem, ⟨1, _⟩ => ⟨S1x8x512, .f32⟩
  | .local _ .vmem, ⟨2, _⟩ => ⟨S1x512x512, .f32⟩
  | .local _ .vmem, ⟨3, _⟩ => ⟨S1x512x512, .f32⟩
  | .local _ .smem, ⟨0, _⟩ => ⟨S4x512, .i32⟩
  | _, _ => ⟨S4x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let arg0 : BitVec 32 := BitVec.ofNat 32 (i 0).val
  let v4 : Index := Scalar.indexCast arg0
  let c0_2 : Index := 0#32
  ![v4.toNat, 0]
def k0_off2 (i : grid0.Coords) : Fin 2 → Nat :=
  let arg0 : BitVec 32 := BitVec.ofNat 32 (i 0).val
  let v6 : Index := Scalar.indexCast arg0
  let c1 : Index := 1#32
  ![v6.toNat, 1]
def k0_off3 (i : grid0.Coords) (v5 : BitVec 32) : Fin 2 → Nat :=
  let arg0 : BitVec 32 := BitVec.ofNat 32 (i 0).val
  let v8 : Index := Scalar.indexCast arg0
  let v9 : Index := Scalar.indexCast v5
  ![v8.toNat, v9.toNat]

def k0_off4 (i : grid0.Coords) (v5 : BitVec 32) : Fin 2 → Nat :=
  let arg0 : BitVec 32 := BitVec.ofNat 32 (i 0).val
  let v12 : Index := Scalar.indexCast arg0
  let c1_i32 : BitVec 32 := 1#32
  let v11 : BitVec 32 := Scalar.addi v5 c1_i32
  let v13 : Index := Scalar.indexCast v11
  ![v12.toNat, v13.toNat]

def k0_chk1 (i : grid0.Coords) (v5 : BitVec 32) : Prop :=
  (∀ a, (k0_off3 i v5) a + S1x1.size a ≤ S4x512.size a) ∧
  (∀ a, (k0_off4 i v5) a + S1x1.size a ≤ S4x512.size a)
theorem k0_off3_inb : ∀ (i : grid0.Coords) (v5 : BitVec 32) (k0_hw1 : k0_chk1 i v5), ∀ a, (k0_off3 i v5) a + S1x1.size a ≤ S4x512.size a := fun i v5 k0_hw1 => k0_hw1.1
theorem k0_off4_inb : ∀ (i : grid0.Coords) (v5 : BitVec 32) (k0_hw1 : k0_chk1 i v5), ∀ a, (k0_off4 i v5) a + S1x1.size a ≤ S4x512.size a := fun i v5 k0_hw1 => k0_hw1.2

def k0_off5 (i : grid0.Coords) (v7 : BitVec 32) : Fin 2 → Nat :=
  let arg0 : BitVec 32 := BitVec.ofNat 32 (i 0).val
  let v15 : Index := Scalar.indexCast arg0
  let v16 : Index := Scalar.indexCast v7
  ![v15.toNat, v16.toNat]

def k0_off6 (i : grid0.Coords) (v7 : BitVec 32) : Fin 2 → Nat :=
  let arg0 : BitVec 32 := BitVec.ofNat 32 (i 0).val
  let v19 : Index := Scalar.indexCast arg0
  let c1_i32_3 : BitVec 32 := 1#32
  let v18 : BitVec 32 := Scalar.addi v7 c1_i32_3
  let v20 : Index := Scalar.indexCast v18
  ![v19.toNat, v20.toNat]

def k0_chk2 (i : grid0.Coords) (v7 : BitVec 32) : Prop :=
  (∀ a, (k0_off5 i v7) a + S1x1.size a ≤ S4x512.size a) ∧
  (∀ a, (k0_off6 i v7) a + S1x1.size a ≤ S4x512.size a)
theorem k0_off5_inb : ∀ (i : grid0.Coords) (v7 : BitVec 32) (k0_hw2 : k0_chk2 i v7), ∀ a, (k0_off5 i v7) a + S1x1.size a ≤ S4x512.size a := fun i v7 k0_hw2 => k0_hw2.1
theorem k0_off6_inb : ∀ (i : grid0.Coords) (v7 : BitVec 32) (k0_hw2 : k0_chk2 i v7), ∀ a, (k0_off6 i v7) a + S1x1.size a ≤ S4x512.size a := fun i v7 k0_hw2 => k0_hw2.2

def k0_off7 (i : grid0.Coords) (v10 : BitVec 32) : Fin 2 → Nat :=
  let arg0 : BitVec 32 := BitVec.ofNat 32 (i 0).val
  let v22 : Index := Scalar.indexCast arg0
  let v23 : Index := Scalar.indexCast v10
  ![v22.toNat, v23.toNat]

def k0_off8 (i : grid0.Coords) (v17 : BitVec 32) : Fin 2 → Nat :=
  let arg0 : BitVec 32 := BitVec.ofNat 32 (i 0).val
  let v25 : Index := Scalar.indexCast arg0
  let v26 : Index := Scalar.indexCast v17
  ![v25.toNat, v26.toNat]

def k0_off9 (i : grid0.Coords) (v14 : BitVec 32) : Fin 2 → Nat :=
  let arg0 : BitVec 32 := BitVec.ofNat 32 (i 0).val
  let v28 : Index := Scalar.indexCast arg0
  let v29 : Index := Scalar.indexCast v14
  ![v28.toNat, v29.toNat]

def k0_off10 (i : grid0.Coords) (v21 : BitVec 32) : Fin 2 → Nat :=
  let arg0 : BitVec 32 := BitVec.ofNat 32 (i 0).val
  let v31 : Index := Scalar.indexCast arg0
  let v32 : Index := Scalar.indexCast v21
  ![v31.toNat, v32.toNat]

def k0_off11 (i : grid0.Coords) (v10 : BitVec 32) : Fin 2 → Nat :=
  let arg0 : BitVec 32 := BitVec.ofNat 32 (i 0).val
  let v35 : Index := Scalar.indexCast arg0
  let c1_i32_4 : BitVec 32 := 1#32
  let v34 : BitVec 32 := Scalar.addi v10 c1_i32_4
  let v36 : Index := Scalar.indexCast v34
  ![v35.toNat, v36.toNat]

def k0_chk3 (i : grid0.Coords) (v10 : BitVec 32) : Prop :=
  (∀ a, (k0_off7 i v10) a + S1x1.size a ≤ S4x512.size a) ∧
  (∀ a, (k0_off11 i v10) a + S1x1.size a ≤ S4x512.size a)
theorem k0_off7_inb : ∀ (i : grid0.Coords) (v10 : BitVec 32) (k0_hw3 : k0_chk3 i v10), ∀ a, (k0_off7 i v10) a + S1x1.size a ≤ S4x512.size a := fun i v10 k0_hw3 => k0_hw3.1
theorem k0_off11_inb : ∀ (i : grid0.Coords) (v10 : BitVec 32) (k0_hw3 : k0_chk3 i v10), ∀ a, (k0_off11 i v10) a + S1x1.size a ≤ S4x512.size a := fun i v10 k0_hw3 => k0_hw3.2

def k0_off12 (i : grid0.Coords) (v17 : BitVec 32) : Fin 2 → Nat :=
  let arg0 : BitVec 32 := BitVec.ofNat 32 (i 0).val
  let v39 : Index := Scalar.indexCast arg0
  let c1_i32_5 : BitVec 32 := 1#32
  let v38 : BitVec 32 := Scalar.addi v17 c1_i32_5
  let v40 : Index := Scalar.indexCast v38
  ![v39.toNat, v40.toNat]

def k0_chk4 (i : grid0.Coords) (v17 : BitVec 32) : Prop :=
  (∀ a, (k0_off8 i v17) a + S1x1.size a ≤ S4x512.size a) ∧
  (∀ a, (k0_off12 i v17) a + S1x1.size a ≤ S4x512.size a)
theorem k0_off8_inb : ∀ (i : grid0.Coords) (v17 : BitVec 32) (k0_hw4 : k0_chk4 i v17), ∀ a, (k0_off8 i v17) a + S1x1.size a ≤ S4x512.size a := fun i v17 k0_hw4 => k0_hw4.1
theorem k0_off12_inb : ∀ (i : grid0.Coords) (v17 : BitVec 32) (k0_hw4 : k0_chk4 i v17), ∀ a, (k0_off12 i v17) a + S1x1.size a ≤ S4x512.size a := fun i v17 k0_hw4 => k0_hw4.2

def k0_off13 (i : grid0.Coords) (v14 : BitVec 32) : Fin 2 → Nat :=
  let arg0 : BitVec 32 := BitVec.ofNat 32 (i 0).val
  let v43 : Index := Scalar.indexCast arg0
  let c1_i32_6 : BitVec 32 := 1#32
  let v42 : BitVec 32 := Scalar.addi v14 c1_i32_6
  let v44 : Index := Scalar.indexCast v42
  ![v43.toNat, v44.toNat]

def k0_chk5 (i : grid0.Coords) (v14 : BitVec 32) : Prop :=
  (∀ a, (k0_off9 i v14) a + S1x1.size a ≤ S4x512.size a) ∧
  (∀ a, (k0_off13 i v14) a + S1x1.size a ≤ S4x512.size a)
theorem k0_off9_inb : ∀ (i : grid0.Coords) (v14 : BitVec 32) (k0_hw5 : k0_chk5 i v14), ∀ a, (k0_off9 i v14) a + S1x1.size a ≤ S4x512.size a := fun i v14 k0_hw5 => k0_hw5.1
theorem k0_off13_inb : ∀ (i : grid0.Coords) (v14 : BitVec 32) (k0_hw5 : k0_chk5 i v14), ∀ a, (k0_off13 i v14) a + S1x1.size a ≤ S4x512.size a := fun i v14 k0_hw5 => k0_hw5.2

def k0_off14 (i : grid0.Coords) (v21 : BitVec 32) : Fin 2 → Nat :=
  let arg0 : BitVec 32 := BitVec.ofNat 32 (i 0).val
  let v47 : Index := Scalar.indexCast arg0
  let c1_i32_7 : BitVec 32 := 1#32
  let v46 : BitVec 32 := Scalar.addi v21 c1_i32_7
  let v48 : Index := Scalar.indexCast v46
  ![v47.toNat, v48.toNat]

def k0_chk6 (i : grid0.Coords) (v21 : BitVec 32) : Prop :=
  (∀ a, (k0_off10 i v21) a + S1x1.size a ≤ S4x512.size a) ∧
  (∀ a, (k0_off14 i v21) a + S1x1.size a ≤ S4x512.size a)
theorem k0_off10_inb : ∀ (i : grid0.Coords) (v21 : BitVec 32) (k0_hw6 : k0_chk6 i v21), ∀ a, (k0_off10 i v21) a + S1x1.size a ≤ S4x512.size a := fun i v21 k0_hw6 => k0_hw6.1
theorem k0_off14_inb : ∀ (i : grid0.Coords) (v21 : BitVec 32) (k0_hw6 : k0_chk6 i v21), ∀ a, (k0_off14 i v21) a + S1x1.size a ≤ S4x512.size a := fun i v21 k0_hw6 => k0_hw6.2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S4x512 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "a1" => some ((8 / 15 : ℝ) : EReal)
  | "a2" => some ((4 / 15 : ℝ) : EReal)
  | "a4" => some ((2 / 15 : ℝ) : EReal)
  | "a8" => some ((1 / 15 : ℝ) : EReal)
  | "s1" => some ((1 / 100 : ℝ) : EReal)
  | "s2" => some ((1 / 50 : ℝ) : EReal)
  | "s4" => some ((1 / 25 : ℝ) : EReal)
  | "s8" => some ((2 / 25 : ℝ) : EReal)
  | _ => none
-- ==== ReferenceIdeal.lean ====
abbrev S4x512x512 : Shape := ⟨3, ![4, 512, 512]⟩
abbrev S4x512 : Shape := ⟨2, ![4, 512]⟩
abbrev S4 : Shape := ⟨1, ![4]⟩
abbrev S_ : Shape := ⟨0, ![]⟩
abbrev S4x1x1 : Shape := ⟨3, ![4, 1, 1]⟩
abbrev S4x1x512x512 : Shape := ⟨4, ![4, 1, 512, 512]⟩
abbrev S1x4x1x1 : Shape := ⟨4, ![1, 4, 1, 1]⟩
abbrev S4x4x512x512 : Shape := ⟨4, ![4, 4, 512, 512]⟩
abbrev S4x4x512x512x1 : Shape := ⟨5, ![4, 4, 512, 512, 1]⟩
abbrev S4x512x512x1 : Shape := ⟨4, ![4, 512, 512, 1]⟩
abbrev S4x512x512x3 : Shape := ⟨4, ![4, 512, 512, 3]⟩

abbrev nBuf : Space → Nat
  | .hbm => 693
  | .vmem => 0
  | .smem => 0
  | _ => 0

abbrev hbmTy0_0 (i : Nat) : BufTy := match i % 128 with
  | 0 => ⟨S4x512x512, .f32⟩
  | 1 => ⟨S4x512x512, .f32⟩
  | 2 => ⟨S4x512x512, .f32⟩
  | 3 => ⟨S4x512, .i32⟩
  | 4 => ⟨S4, .i32⟩
  | 5 => ⟨S4, .f32⟩
  | 6 => ⟨S_, .f32⟩
  | 7 => ⟨S4, .f32⟩
  | 8 => ⟨S4, .f32⟩
  | 9 => ⟨S4x1x1, .f32⟩
  | 10 => ⟨S_, .f32⟩
  | 11 => ⟨S4, .f32⟩
  | 12 => ⟨S4, .f32⟩
  | 13 => ⟨S4x1x1, .f32⟩
  | 14 => ⟨S4x1x512x512, .f32⟩
  | 15 => ⟨S1x4x1x1, .f32⟩
  | 16 => ⟨S4x4x512x512, .f32⟩
  | 17 => ⟨S4x4x512x512, .f32⟩
  | 18 => ⟨S4x4x512x512, .f32⟩
  | 19 => ⟨S_, .f32⟩
  | 20 => ⟨S4x4x512x512, .f32⟩
  | 21 => ⟨S4x4x512x512, .f32⟩
  | 22 => ⟨S4x1x512x512, .f32⟩
  | 23 => ⟨S1x4x1x1, .f32⟩
  | 24 => ⟨S4x4x512x512, .f32⟩
  | 25 => ⟨S4x4x512x512, .f32⟩
  | 26 => ⟨S4x4x512x512, .f32⟩
  | 27 => ⟨S_, .f32⟩
  | 28 => ⟨S4x4x512x512, .f32⟩
  | 29 => ⟨S4x4x512x512, .f32⟩
  | 30 => ⟨S4x1x512x512, .f32⟩
  | 31 => ⟨S1x4x1x1, .f32⟩
  | 32 => ⟨S4x4x512x512, .f32⟩
  | 33 => ⟨S4x4x512x512, .f32⟩
  | 34 => ⟨S4x4x512x512, .f32⟩
  | 35 => ⟨S_, .f32⟩
  | 36 => ⟨S4x4x512x512, .f32⟩
  | 37 => ⟨S4x4x512x512, .f32⟩
  | 38 => ⟨S4x4x512x512, .f32⟩
  | 39 => ⟨S_, .i32⟩
  | 40 => ⟨S_, .f32⟩
  | 41 => ⟨S4x4x512x512, .f32⟩
  | 42 => ⟨S4x4x512x512, .f32⟩
  | 43 => ⟨S_, .f32⟩
  | 44 => ⟨S4x4x512x512, .f32⟩
  | 45 => ⟨S4x4x512x512, .i1⟩
  | 46 => ⟨S_, .f32⟩
  | 47 => ⟨S4x4x512x512, .f32⟩
  | 48 => ⟨S4x4x512x512, .i1⟩
  | 49 => ⟨S_, .f32⟩
  | 50 => ⟨S_, .i1⟩
  | 51 => ⟨S4x4x512x512, .i1⟩
  | 52 => ⟨S4x4x512x512, .i1⟩
  | 53 => ⟨S4x4x512x512, .i1⟩
  | 54 => ⟨S4x4x512x512, .f32⟩
  | 55 => ⟨S4x4x512x512, .f32⟩
  | 56 => ⟨S4x4x512x512, .f32⟩
  | 57 => ⟨S4x4x512x512, .i32⟩
  | 58 => ⟨S4x4x512x512, .f32⟩
  | 59 => ⟨S_, .i32⟩
  | 60 => ⟨S_, .f32⟩
  | 61 => ⟨S4x4x512x512, .f32⟩
  | 62 => ⟨S4x4x512x512, .f32⟩
  | 63 => ⟨S_, .f32⟩
  | 64 => ⟨S4x4x512x512, .f32⟩
  | 65 => ⟨S4x4x512x512, .i1⟩
  | 66 => ⟨S_, .f32⟩
  | 67 => ⟨S4x4x512x512, .f32⟩
  | 68 => ⟨S4x4x512x512, .i1⟩
  | 69 => ⟨S_, .f32⟩
  | 70 => ⟨S_, .i1⟩
  | 71 => ⟨S4x4x512x512, .i1⟩
  | 72 => ⟨S4x4x512x512, .i1⟩
  | 73 => ⟨S4x4x512x512, .i1⟩
  | 74 => ⟨S4x4x512x512, .f32⟩
  | 75 => ⟨S4x4x512x512, .f32⟩
  | 76 => ⟨S4x4x512x512, .f32⟩
  | 77 => ⟨S4x4x512x512, .i32⟩
  | 78 => ⟨S4x4x512x512, .f32⟩
  | 79 => ⟨S_, .i32⟩
  | 80 => ⟨S_, .f32⟩
  | 81 => ⟨S4x4x512x512, .f32⟩
  | 82 => ⟨S4x4x512x512, .f32⟩
  | 83 => ⟨S_, .f32⟩
  | 84 => ⟨S4x4x512x512, .f32⟩
  | 85 => ⟨S4x4x512x512, .i1⟩
  | 86 => ⟨S_, .f32⟩
  | 87 => ⟨S4x4x512x512, .f32⟩
  | 88 => ⟨S4x4x512x512, .i1⟩
  | 89 => ⟨S_, .f32⟩
  | 90 => ⟨S_, .i1⟩
  | 91 => ⟨S4x4x512x512, .i1⟩
  | 92 => ⟨S4x4x512x512, .i1⟩
  | 93 => ⟨S4x4x512x512, .i1⟩
  | 94 => ⟨S4x4x512x512, .f32⟩
  | 95 => ⟨S4x4x512x512, .f32⟩
  | 96 => ⟨S4x4x512x512, .f32⟩
  | 97 => ⟨S4x4x512x512, .i32⟩
  | 98 => ⟨S4x4x512x512, .f32⟩
  | 99 => ⟨S4x4x512x512, .f32⟩
  | 100 => ⟨S4x4x512x512, .f32⟩
  | 101 => ⟨S4x4x512x512, .f32⟩
  | 102 => ⟨S4x4x512x512, .f32⟩
  | 103 => ⟨S4x4x512x512, .f32⟩
  | 104 => ⟨S4x4x512x512, .f32⟩
  | 105 => ⟨S4x4x512x512, .f32⟩
  | 106 => ⟨S4x4x512x512, .f32⟩
  | 107 => ⟨S_, .f32⟩
  | 108 => ⟨S4x4x512x512, .f32⟩
  | 109 => ⟨S4x4x512x512, .f32⟩
  | 110 => ⟨S4x4x512x512, .f32⟩
  | 111 => ⟨S4x4x512x512, .f32⟩
  | 112 => ⟨S_, .f32⟩
  | 113 => ⟨S4x4x512x512, .f32⟩
  | 114 => ⟨S4x4x512x512, .f32⟩
  | 115 => ⟨S4x4x512x512, .f32⟩
  | 116 => ⟨S4x4x512x512, .f32⟩
  | 117 => ⟨S4x4x512x512, .f32⟩
  | 118 => ⟨S_, .f32⟩
  | 119 => ⟨S4x4x512x512, .f32⟩
  | 120 => ⟨S4x4x512x512, .f32⟩
  | 121 => ⟨S4x4x512x512, .f32⟩
  | 122 => ⟨S4x4x512x512, .f32⟩
  | 123 => ⟨S4x4x512x512, .f32⟩
  | 124 => ⟨S4x4x512x512, .f32⟩
  | 125 => ⟨S_, .f32⟩
  | 126 => ⟨S4x4x512x512, .f32⟩
  | 127 => ⟨S4x4x512x512, .f32⟩
  | _ => ⟨S4x512x512, .f32⟩

abbrev hbmTy0_1 (i : Nat) : BufTy := match i % 128 with
  | 0 => ⟨S4x4x512x512, .f32⟩
  | 1 => ⟨S4x4x512x512, .f32⟩
  | 2 => ⟨S_, .f32⟩
  | 3 => ⟨S4x4x512x512, .f32⟩
  | 4 => ⟨S4x4x512x512, .f32⟩
  | 5 => ⟨S4x4x512x512, .f32⟩
  | 6 => ⟨S4x4x512x512, .f32⟩
  | 7 => ⟨S4x4x512x512, .f32⟩
  | 8 => ⟨S_, .f32⟩
  | 9 => ⟨S4x4x512x512, .f32⟩
  | 10 => ⟨S4x4x512x512, .f32⟩
  | 11 => ⟨S4x4x512x512, .f32⟩
  | 12 => ⟨S4x4x512x512, .f32⟩
  | 13 => ⟨S4x4x512x512, .f32⟩
  | 14 => ⟨S4x4x512x512, .f32⟩
  | 15 => ⟨S_, .f32⟩
  | 16 => ⟨S4x4x512x512, .f32⟩
  | 17 => ⟨S4x4x512x512, .f32⟩
  | 18 => ⟨S4x4x512x512, .f32⟩
  | 19 => ⟨S4x4x512x512, .f32⟩
  | 20 => ⟨S_, .f32⟩
  | 21 => ⟨S4x4x512x512, .f32⟩
  | 22 => ⟨S4x4x512x512, .f32⟩
  | 23 => ⟨S4x4x512x512, .f32⟩
  | 24 => ⟨S4x4x512x512, .f32⟩
  | 25 => ⟨S4x4x512x512, .f32⟩
  | 26 => ⟨S_, .f32⟩
  | 27 => ⟨S4x4x512x512, .f32⟩
  | 28 => ⟨S4x4x512x512, .f32⟩
  | 29 => ⟨S4x4x512x512, .f32⟩
  | 30 => ⟨S_, .i32⟩
  | 31 => ⟨S4x4x512x512, .i32⟩
  | 32 => ⟨S4x4x512x512, .i1⟩
  | 33 => ⟨S_, .i32⟩
  | 34 => ⟨S4x4x512x512, .i32⟩
  | 35 => ⟨S4x4x512x512, .i32⟩
  | 36 => ⟨S4x4x512x512, .i32⟩
  | 37 => ⟨S4x4x512x512x1, .i32⟩
  | 38 => ⟨S4x4x512x512, .i32⟩
  | 39 => ⟨S4x4x512x512, .i32⟩
  | 40 => ⟨S_, .i32⟩
  | 41 => ⟨S4x4x512x512, .i32⟩
  | 42 => ⟨S4x4x512x512, .i1⟩
  | 43 => ⟨S_, .i32⟩
  | 44 => ⟨S4x4x512x512, .i32⟩
  | 45 => ⟨S4x4x512x512, .i32⟩
  | 46 => ⟨S4x4x512x512, .i32⟩
  | 47 => ⟨S4x4x512x512x1, .i32⟩
  | 48 => ⟨S4x4x512x512, .i32⟩
  | 49 => ⟨S4x4x512x512, .i32⟩
  | 50 => ⟨S_, .i32⟩
  | 51 => ⟨S4x4x512x512, .i32⟩
  | 52 => ⟨S4x4x512x512, .i32⟩
  | 53 => ⟨S_, .i32⟩
  | 54 => ⟨S4x4x512x512, .i32⟩
  | 55 => ⟨S4x4x512x512, .i1⟩
  | 56 => ⟨S_, .i32⟩
  | 57 => ⟨S4x4x512x512, .i32⟩
  | 58 => ⟨S4x4x512x512, .i32⟩
  | 59 => ⟨S4x4x512x512, .i32⟩
  | 60 => ⟨S4x4x512x512x1, .i32⟩
  | 61 => ⟨S4x4x512x512, .i32⟩
  | 62 => ⟨S4x4x512x512, .i32⟩
  | 63 => ⟨S_, .i32⟩
  | 64 => ⟨S4x4x512x512, .i32⟩
  | 65 => ⟨S4x4x512x512, .i32⟩
  | 66 => ⟨S_, .i32⟩
  | 67 => ⟨S4x4x512x512, .i32⟩
  | 68 => ⟨S4x4x512x512, .i1⟩
  | 69 => ⟨S_, .i32⟩
  | 70 => ⟨S4x4x512x512, .i32⟩
  | 71 => ⟨S4x4x512x512, .i32⟩
  | 72 => ⟨S4x4x512x512, .i32⟩
  | 73 => ⟨S4x4x512x512x1, .i32⟩
  | 74 => ⟨S4x4x512x512, .i32⟩
  | 75 => ⟨S4x4x512x512, .i32⟩
  | 76 => ⟨S_, .i32⟩
  | 77 => ⟨S4x4x512x512, .i32⟩
  | 78 => ⟨S4x4x512x512, .i1⟩
  | 79 => ⟨S_, .i32⟩
  | 80 => ⟨S4x4x512x512, .i32⟩
  | 81 => ⟨S4x4x512x512, .i32⟩
  | 82 => ⟨S4x4x512x512, .i32⟩
  | 83 => ⟨S4x4x512x512x1, .i32⟩
  | 84 => ⟨S4x4x512x512, .i32⟩
  | 85 => ⟨S4x4x512x512, .i32⟩
  | 86 => ⟨S_, .i32⟩
  | 87 => ⟨S4x4x512x512, .i32⟩
  | 88 => ⟨S4x4x512x512, .i32⟩
  | 89 => ⟨S_, .i32⟩
  | 90 => ⟨S4x4x512x512, .i32⟩
  | 91 => ⟨S4x4x512x512, .i1⟩
  | 92 => ⟨S_, .i32⟩
  | 93 => ⟨S4x4x512x512, .i32⟩
  | 94 => ⟨S4x4x512x512, .i32⟩
  | 95 => ⟨S4x4x512x512, .i32⟩
  | 96 => ⟨S4x4x512x512x1, .i32⟩
  | 97 => ⟨S4x4x512x512, .i32⟩
  | 98 => ⟨S4x4x512x512, .i32⟩
  | 99 => ⟨S_, .i32⟩
  | 100 => ⟨S4x4x512x512, .i32⟩
  | 101 => ⟨S4x4x512x512, .i1⟩
  | 102 => ⟨S_, .i32⟩
  | 103 => ⟨S4x4x512x512, .i32⟩
  | 104 => ⟨S4x4x512x512, .i32⟩
  | 105 => ⟨S4x4x512x512, .i32⟩
  | 106 => ⟨S4x4x512x512x1, .i32⟩
  | 107 => ⟨S4x4x512x512, .i32⟩
  | 108 => ⟨S_, .i32⟩
  | 109 => ⟨S4x4x512x512, .i32⟩
  | 110 => ⟨S4x4x512x512, .i32⟩
  | 111 => ⟨S_, .i32⟩
  | 112 => ⟨S4x4x512x512, .i32⟩
  | 113 => ⟨S4x4x512x512, .i1⟩
  | 114 => ⟨S4x4x512x512, .f32⟩
  | 115 => ⟨S_, .i32⟩
  | 116 => ⟨S4x4x512x512, .i32⟩
  | 117 => ⟨S4x4x512x512, .i1⟩
  | 118 => ⟨S_, .i32⟩
  | 119 => ⟨S4x4x512x512, .i32⟩
  | 120 => ⟨S4x4x512x512, .i1⟩
  | 121 => ⟨S_, .i32⟩
  | 122 => ⟨S4x4x512x512, .i32⟩
  | 123 => ⟨S4x4x512x512, .i1⟩
  | 124 => ⟨S4x4x512x512, .i1⟩
  | 125 => ⟨S4x4x512x512, .f32⟩
  | 126 => ⟨S4x4x512x512, .f32⟩
  | 127 => ⟨S_, .i32⟩
  | _ => ⟨S4x512x512, .f32⟩

abbrev hbmTy0_2 (i : Nat) : BufTy := match i % 128 with
  | 0 => ⟨S4x4x512x512, .i32⟩
  | 1 => ⟨S4x4x512x512, .i32⟩
  | 2 => ⟨S_, .i32⟩
  | 3 => ⟨S4x4x512x512, .i32⟩
  | 4 => ⟨S4x4x512x512, .i1⟩
  | 5 => ⟨S4x4x512x512, .f32⟩
  | 6 => ⟨S4x4x512x512, .f32⟩
  | 7 => ⟨S_, .i32⟩
  | 8 => ⟨S4x4x512x512, .i32⟩
  | 9 => ⟨S4x4x512x512, .i32⟩
  | 10 => ⟨S_, .i32⟩
  | 11 => ⟨S4x4x512x512, .i32⟩
  | 12 => ⟨S4x4x512x512, .i1⟩
  | 13 => ⟨S4x4x512x512, .f32⟩
  | 14 => ⟨S4x4x512x512, .f32⟩
  | 15 => ⟨S4x4x512x512, .f32⟩
  | 16 => ⟨S_, .i32⟩
  | 17 => ⟨S4x4x512x512, .i32⟩
  | 18 => ⟨S4x4x512x512, .i1⟩
  | 19 => ⟨S_, .i32⟩
  | 20 => ⟨S4x4x512x512, .i32⟩
  | 21 => ⟨S4x4x512x512, .i32⟩
  | 22 => ⟨S4x4x512x512, .i32⟩
  | 23 => ⟨S4x4x512x512x1, .i32⟩
  | 24 => ⟨S4x4x512x512, .i32⟩
  | 25 => ⟨S_, .f32⟩
  | 26 => ⟨S4x4x512x512, .f32⟩
  | 27 => ⟨S4x4x512x512, .f32⟩
  | 28 => ⟨S_, .i32⟩
  | 29 => ⟨S4x4x512x512, .i32⟩
  | 30 => ⟨S4x4x512x512, .i32⟩
  | 31 => ⟨S_, .i32⟩
  | 32 => ⟨S4x4x512x512, .i32⟩
  | 33 => ⟨S4x4x512x512, .i1⟩
  | 34 => ⟨S4x4x512x512, .f32⟩
  | 35 => ⟨S_, .i32⟩
  | 36 => ⟨S4x4x512x512, .i32⟩
  | 37 => ⟨S4x4x512x512, .i1⟩
  | 38 => ⟨S_, .i32⟩
  | 39 => ⟨S4x4x512x512, .i32⟩
  | 40 => ⟨S4x4x512x512, .i1⟩
  | 41 => ⟨S_, .i32⟩
  | 42 => ⟨S4x4x512x512, .i32⟩
  | 43 => ⟨S4x4x512x512, .i1⟩
  | 44 => ⟨S4x4x512x512, .i1⟩
  | 45 => ⟨S4x4x512x512, .f32⟩
  | 46 => ⟨S4x4x512x512, .f32⟩
  | 47 => ⟨S_, .i32⟩
  | 48 => ⟨S4x4x512x512, .i32⟩
  | 49 => ⟨S4x4x512x512, .i32⟩
  | 50 => ⟨S_, .i32⟩
  | 51 => ⟨S4x4x512x512, .i32⟩
  | 52 => ⟨S4x4x512x512, .i1⟩
  | 53 => ⟨S4x4x512x512, .f32⟩
  | 54 => ⟨S4x4x512x512, .f32⟩
  | 55 => ⟨S_, .i32⟩
  | 56 => ⟨S4x4x512x512, .i32⟩
  | 57 => ⟨S4x4x512x512, .i32⟩
  | 58 => ⟨S_, .i32⟩
  | 59 => ⟨S4x4x512x512, .i32⟩
  | 60 => ⟨S4x4x512x512, .i1⟩
  | 61 => ⟨S4x4x512x512, .f32⟩
  | 62 => ⟨S4x4x512x512, .f32⟩
  | 63 => ⟨S4x4x512x512, .f32⟩
  | 64 => ⟨S4x4x512x512, .f32⟩
  | 65 => ⟨S4x4x512x512, .f32⟩
  | 66 => ⟨S4x4x512x512, .f32⟩
  | 67 => ⟨S_, .i32⟩
  | 68 => ⟨S4x4x512x512, .i32⟩
  | 69 => ⟨S4x4x512x512, .i1⟩
  | 70 => ⟨S_, .i32⟩
  | 71 => ⟨S4x4x512x512, .i32⟩
  | 72 => ⟨S4x4x512x512, .i32⟩
  | 73 => ⟨S4x4x512x512, .i32⟩
  | 74 => ⟨S4x4x512x512x1, .i32⟩
  | 75 => ⟨S4x4x512x512, .i32⟩
  | 76 => ⟨S_, .f32⟩
  | 77 => ⟨S4x4x512x512, .f32⟩
  | 78 => ⟨S4x4x512x512, .f32⟩
  | 79 => ⟨S_, .i32⟩
  | 80 => ⟨S4x4x512x512, .i32⟩
  | 81 => ⟨S4x4x512x512, .i32⟩
  | 82 => ⟨S_, .i32⟩
  | 83 => ⟨S4x4x512x512, .i32⟩
  | 84 => ⟨S4x4x512x512, .i1⟩
  | 85 => ⟨S4x4x512x512, .f32⟩
  | 86 => ⟨S_, .i32⟩
  | 87 => ⟨S4x4x512x512, .i32⟩
  | 88 => ⟨S4x4x512x512, .i1⟩
  | 89 => ⟨S_, .i32⟩
  | 90 => ⟨S4x4x512x512, .i32⟩
  | 91 => ⟨S4x4x512x512, .i1⟩
  | 92 => ⟨S_, .i32⟩
  | 93 => ⟨S4x4x512x512, .i32⟩
  | 94 => ⟨S4x4x512x512, .i1⟩
  | 95 => ⟨S4x4x512x512, .i1⟩
  | 96 => ⟨S4x4x512x512, .f32⟩
  | 97 => ⟨S4x4x512x512, .f32⟩
  | 98 => ⟨S_, .i32⟩
  | 99 => ⟨S4x4x512x512, .i32⟩
  | 100 => ⟨S4x4x512x512, .i32⟩
  | 101 => ⟨S_, .i32⟩
  | 102 => ⟨S4x4x512x512, .i32⟩
  | 103 => ⟨S4x4x512x512, .i1⟩
  | 104 => ⟨S4x4x512x512, .f32⟩
  | 105 => ⟨S4x4x512x512, .f32⟩
  | 106 => ⟨S_, .i32⟩
  | 107 => ⟨S4x4x512x512, .i32⟩
  | 108 => ⟨S4x4x512x512, .i32⟩
  | 109 => ⟨S_, .i32⟩
  | 110 => ⟨S4x4x512x512, .i32⟩
  | 111 => ⟨S4x4x512x512, .i1⟩
  | 112 => ⟨S4x4x512x512, .f32⟩
  | 113 => ⟨S4x4x512x512, .f32⟩
  | 114 => ⟨S4x4x512x512, .f32⟩
  | 115 => ⟨S_, .i32⟩
  | 116 => ⟨S4x4x512x512, .i32⟩
  | 117 => ⟨S4x4x512x512, .i1⟩
  | 118 => ⟨S_, .i32⟩
  | 119 => ⟨S4x4x512x512, .i32⟩
  | 120 => ⟨S4x4x512x512, .i32⟩
  | 121 => ⟨S4x4x512x512, .i32⟩
  | 122 => ⟨S4x4x512x512x1, .i32⟩
  | 123 => ⟨S4x4x512x512, .i32⟩
  | 124 => ⟨S_, .f32⟩
  | 125 => ⟨S4x4x512x512, .f32⟩
  | 126 => ⟨S4x4x512x512, .f32⟩
  | 127 => ⟨S_, .f32⟩
  | _ => ⟨S4x512x512, .f32⟩

abbrev hbmTy0_3 (i : Nat) : BufTy := match i % 128 with
  | 0 => ⟨S4x4x512x512, .f32⟩
  | 1 => ⟨S4x4x512x512, .f32⟩
  | 2 => ⟨S_, .i32⟩
  | 3 => ⟨S4x4x512x512, .i32⟩
  | 4 => ⟨S4x4x512x512, .i32⟩
  | 5 => ⟨S_, .i32⟩
  | 6 => ⟨S4x4x512x512, .i32⟩
  | 7 => ⟨S4x4x512x512, .i1⟩
  | 8 => ⟨S4x4x512x512, .f32⟩
  | 9 => ⟨S_, .i32⟩
  | 10 => ⟨S4x4x512x512, .i32⟩
  | 11 => ⟨S4x4x512x512, .i1⟩
  | 12 => ⟨S_, .i32⟩
  | 13 => ⟨S4x4x512x512, .i32⟩
  | 14 => ⟨S4x4x512x512, .i1⟩
  | 15 => ⟨S_, .i32⟩
  | 16 => ⟨S4x4x512x512, .i32⟩
  | 17 => ⟨S4x4x512x512, .i1⟩
  | 18 => ⟨S4x4x512x512, .i1⟩
  | 19 => ⟨S4x4x512x512, .f32⟩
  | 20 => ⟨S4x4x512x512, .f32⟩
  | 21 => ⟨S_, .i32⟩
  | 22 => ⟨S4x4x512x512, .i32⟩
  | 23 => ⟨S4x4x512x512, .i32⟩
  | 24 => ⟨S_, .i32⟩
  | 25 => ⟨S4x4x512x512, .i32⟩
  | 26 => ⟨S4x4x512x512, .i1⟩
  | 27 => ⟨S4x4x512x512, .f32⟩
  | 28 => ⟨S4x4x512x512, .f32⟩
  | 29 => ⟨S_, .i32⟩
  | 30 => ⟨S4x4x512x512, .i32⟩
  | 31 => ⟨S4x4x512x512, .i32⟩
  | 32 => ⟨S_, .i32⟩
  | 33 => ⟨S4x4x512x512, .i32⟩
  | 34 => ⟨S4x4x512x512, .i1⟩
  | 35 => ⟨S4x4x512x512, .f32⟩
  | 36 => ⟨S4x4x512x512, .f32⟩
  | 37 => ⟨S4x4x512x512, .f32⟩
  | 38 => ⟨S4x4x512x512, .f32⟩
  | 39 => ⟨S4x4x512x512, .f32⟩
  | 40 => ⟨S4x4x512x512, .f32⟩
  | 41 => ⟨S4x4x512x512, .f32⟩
  | 42 => ⟨S4x4x512x512, .f32⟩
  | 43 => ⟨S4x4x512x512, .f32⟩
  | 44 => ⟨S_, .i32⟩
  | 45 => ⟨S4x4x512x512, .i32⟩
  | 46 => ⟨S4x4x512x512, .i32⟩
  | 47 => ⟨S_, .i32⟩
  | 48 => ⟨S4x4x512x512, .i32⟩
  | 49 => ⟨S4x4x512x512, .i1⟩
  | 50 => ⟨S_, .i32⟩
  | 51 => ⟨S4x4x512x512, .i32⟩
  | 52 => ⟨S4x4x512x512, .i32⟩
  | 53 => ⟨S4x4x512x512, .i32⟩
  | 54 => ⟨S4x4x512x512x1, .i32⟩
  | 55 => ⟨S4x4x512x512, .i32⟩
  | 56 => ⟨S_, .f32⟩
  | 57 => ⟨S4x4x512x512, .f32⟩
  | 58 => ⟨S4x4x512x512, .f32⟩
  | 59 => ⟨S_, .i32⟩
  | 60 => ⟨S4x4x512x512, .i32⟩
  | 61 => ⟨S4x4x512x512, .i32⟩
  | 62 => ⟨S_, .i32⟩
  | 63 => ⟨S4x4x512x512, .i32⟩
  | 64 => ⟨S4x4x512x512, .i1⟩
  | 65 => ⟨S4x4x512x512, .f32⟩
  | 66 => ⟨S_, .i32⟩
  | 67 => ⟨S4x4x512x512, .i32⟩
  | 68 => ⟨S4x4x512x512, .i1⟩
  | 69 => ⟨S_, .i32⟩
  | 70 => ⟨S4x4x512x512, .i32⟩
  | 71 => ⟨S4x4x512x512, .i1⟩
  | 72 => ⟨S_, .i32⟩
  | 73 => ⟨S4x4x512x512, .i32⟩
  | 74 => ⟨S4x4x512x512, .i1⟩
  | 75 => ⟨S4x4x512x512, .i1⟩
  | 76 => ⟨S4x4x512x512, .f32⟩
  | 77 => ⟨S4x4x512x512, .f32⟩
  | 78 => ⟨S_, .i32⟩
  | 79 => ⟨S4x4x512x512, .i32⟩
  | 80 => ⟨S4x4x512x512, .i32⟩
  | 81 => ⟨S_, .i32⟩
  | 82 => ⟨S4x4x512x512, .i32⟩
  | 83 => ⟨S4x4x512x512, .i1⟩
  | 84 => ⟨S4x4x512x512, .f32⟩
  | 85 => ⟨S4x4x512x512, .f32⟩
  | 86 => ⟨S_, .i32⟩
  | 87 => ⟨S4x4x512x512, .i32⟩
  | 88 => ⟨S4x4x512x512, .i32⟩
  | 89 => ⟨S_, .i32⟩
  | 90 => ⟨S4x4x512x512, .i32⟩
  | 91 => ⟨S4x4x512x512, .i1⟩
  | 92 => ⟨S4x4x512x512, .f32⟩
  | 93 => ⟨S4x4x512x512, .f32⟩
  | 94 => ⟨S4x4x512x512, .f32⟩
  | 95 => ⟨S_, .i32⟩
  | 96 => ⟨S4x4x512x512, .i32⟩
  | 97 => ⟨S4x4x512x512, .i32⟩
  | 98 => ⟨S_, .i32⟩
  | 99 => ⟨S4x4x512x512, .i32⟩
  | 100 => ⟨S4x4x512x512, .i1⟩
  | 101 => ⟨S_, .i32⟩
  | 102 => ⟨S4x4x512x512, .i32⟩
  | 103 => ⟨S4x4x512x512, .i32⟩
  | 104 => ⟨S4x4x512x512, .i32⟩
  | 105 => ⟨S4x4x512x512x1, .i32⟩
  | 106 => ⟨S4x4x512x512, .i32⟩
  | 107 => ⟨S_, .f32⟩
  | 108 => ⟨S4x4x512x512, .f32⟩
  | 109 => ⟨S4x4x512x512, .f32⟩
  | 110 => ⟨S_, .f32⟩
  | 111 => ⟨S4x4x512x512, .f32⟩
  | 112 => ⟨S4x4x512x512, .f32⟩
  | 113 => ⟨S_, .i32⟩
  | 114 => ⟨S4x4x512x512, .i32⟩
  | 115 => ⟨S4x4x512x512, .i32⟩
  | 116 => ⟨S_, .i32⟩
  | 117 => ⟨S4x4x512x512, .i32⟩
  | 118 => ⟨S4x4x512x512, .i1⟩
  | 119 => ⟨S4x4x512x512, .f32⟩
  | 120 => ⟨S_, .i32⟩
  | 121 => ⟨S4x4x512x512, .i32⟩
  | 122 => ⟨S4x4x512x512, .i1⟩
  | 123 => ⟨S_, .i32⟩
  | 124 => ⟨S4x4x512x512, .i32⟩
  | 125 => ⟨S4x4x512x512, .i1⟩
  | 126 => ⟨S_, .i32⟩
  | 127 => ⟨S4x4x512x512, .i32⟩
  | _ => ⟨S4x512x512, .f32⟩

abbrev hbmTy0_4 (i : Nat) : BufTy := match i % 128 with
  | 0 => ⟨S4x4x512x512, .i1⟩
  | 1 => ⟨S4x4x512x512, .i1⟩
  | 2 => ⟨S4x4x512x512, .f32⟩
  | 3 => ⟨S4x4x512x512, .f32⟩
  | 4 => ⟨S_, .i32⟩
  | 5 => ⟨S4x4x512x512, .i32⟩
  | 6 => ⟨S4x4x512x512, .i32⟩
  | 7 => ⟨S_, .i32⟩
  | 8 => ⟨S4x4x512x512, .i32⟩
  | 9 => ⟨S4x4x512x512, .i1⟩
  | 10 => ⟨S4x4x512x512, .f32⟩
  | 11 => ⟨S4x4x512x512, .f32⟩
  | 12 => ⟨S_, .i32⟩
  | 13 => ⟨S4x4x512x512, .i32⟩
  | 14 => ⟨S4x4x512x512, .i32⟩
  | 15 => ⟨S_, .i32⟩
  | 16 => ⟨S4x4x512x512, .i32⟩
  | 17 => ⟨S4x4x512x512, .i1⟩
  | 18 => ⟨S4x4x512x512, .f32⟩
  | 19 => ⟨S4x4x512x512, .f32⟩
  | 20 => ⟨S4x4x512x512, .f32⟩
  | 21 => ⟨S4x4x512x512, .f32⟩
  | 22 => ⟨S4x4x512x512, .f32⟩
  | 23 => ⟨S4x4x512x512, .f32⟩
  | 24 => ⟨S_, .i32⟩
  | 25 => ⟨S4x4x512x512, .i32⟩
  | 26 => ⟨S4x4x512x512, .i32⟩
  | 27 => ⟨S_, .i32⟩
  | 28 => ⟨S4x4x512x512, .i32⟩
  | 29 => ⟨S4x4x512x512, .i1⟩
  | 30 => ⟨S_, .i32⟩
  | 31 => ⟨S4x4x512x512, .i32⟩
  | 32 => ⟨S4x4x512x512, .i32⟩
  | 33 => ⟨S4x4x512x512, .i32⟩
  | 34 => ⟨S4x4x512x512x1, .i32⟩
  | 35 => ⟨S4x4x512x512, .i32⟩
  | 36 => ⟨S_, .f32⟩
  | 37 => ⟨S4x4x512x512, .f32⟩
  | 38 => ⟨S4x4x512x512, .f32⟩
  | 39 => ⟨S_, .f32⟩
  | 40 => ⟨S4x4x512x512, .f32⟩
  | 41 => ⟨S4x4x512x512, .f32⟩
  | 42 => ⟨S_, .i32⟩
  | 43 => ⟨S4x4x512x512, .i32⟩
  | 44 => ⟨S4x4x512x512, .i32⟩
  | 45 => ⟨S_, .i32⟩
  | 46 => ⟨S4x4x512x512, .i32⟩
  | 47 => ⟨S4x4x512x512, .i1⟩
  | 48 => ⟨S4x4x512x512, .f32⟩
  | 49 => ⟨S_, .i32⟩
  | 50 => ⟨S4x4x512x512, .i32⟩
  | 51 => ⟨S4x4x512x512, .i1⟩
  | 52 => ⟨S_, .i32⟩
  | 53 => ⟨S4x4x512x512, .i32⟩
  | 54 => ⟨S4x4x512x512, .i1⟩
  | 55 => ⟨S_, .i32⟩
  | 56 => ⟨S4x4x512x512, .i32⟩
  | 57 => ⟨S4x4x512x512, .i1⟩
  | 58 => ⟨S4x4x512x512, .i1⟩
  | 59 => ⟨S4x4x512x512, .f32⟩
  | 60 => ⟨S4x4x512x512, .f32⟩
  | 61 => ⟨S_, .i32⟩
  | 62 => ⟨S4x4x512x512, .i32⟩
  | 63 => ⟨S4x4x512x512, .i32⟩
  | 64 => ⟨S_, .i32⟩
  | 65 => ⟨S4x4x512x512, .i32⟩
  | 66 => ⟨S4x4x512x512, .i1⟩
  | 67 => ⟨S4x4x512x512, .f32⟩
  | 68 => ⟨S4x4x512x512, .f32⟩
  | 69 => ⟨S_, .i32⟩
  | 70 => ⟨S4x4x512x512, .i32⟩
  | 71 => ⟨S4x4x512x512, .i32⟩
  | 72 => ⟨S_, .i32⟩
  | 73 => ⟨S4x4x512x512, .i32⟩
  | 74 => ⟨S4x4x512x512, .i1⟩
  | 75 => ⟨S4x4x512x512, .f32⟩
  | 76 => ⟨S4x4x512x512, .f32⟩
  | 77 => ⟨S4x4x512x512, .f32⟩
  | 78 => ⟨S_, .i32⟩
  | 79 => ⟨S4x4x512x512, .i32⟩
  | 80 => ⟨S4x4x512x512, .i32⟩
  | 81 => ⟨S_, .i32⟩
  | 82 => ⟨S4x4x512x512, .i32⟩
  | 83 => ⟨S4x4x512x512, .i1⟩
  | 84 => ⟨S_, .i32⟩
  | 85 => ⟨S4x4x512x512, .i32⟩
  | 86 => ⟨S4x4x512x512, .i32⟩
  | 87 => ⟨S4x4x512x512, .i32⟩
  | 88 => ⟨S4x4x512x512x1, .i32⟩
  | 89 => ⟨S4x4x512x512, .i32⟩
  | 90 => ⟨S_, .f32⟩
  | 91 => ⟨S4x4x512x512, .f32⟩
  | 92 => ⟨S4x4x512x512, .f32⟩
  | 93 => ⟨S_, .f32⟩
  | 94 => ⟨S4x4x512x512, .f32⟩
  | 95 => ⟨S4x4x512x512, .f32⟩
  | 96 => ⟨S_, .f32⟩
  | 97 => ⟨S4x4x512x512, .f32⟩
  | 98 => ⟨S4x4x512x512, .f32⟩
  | 99 => ⟨S_, .i32⟩
  | 100 => ⟨S4x4x512x512, .i32⟩
  | 101 => ⟨S4x4x512x512, .i32⟩
  | 102 => ⟨S_, .i32⟩
  | 103 => ⟨S4x4x512x512, .i32⟩
  | 104 => ⟨S4x4x512x512, .i1⟩
  | 105 => ⟨S4x4x512x512, .f32⟩
  | 106 => ⟨S_, .i32⟩
  | 107 => ⟨S4x4x512x512, .i32⟩
  | 108 => ⟨S4x4x512x512, .i1⟩
  | 109 => ⟨S_, .i32⟩
  | 110 => ⟨S4x4x512x512, .i32⟩
  | 111 => ⟨S4x4x512x512, .i1⟩
  | 112 => ⟨S_, .i32⟩
  | 113 => ⟨S4x4x512x512, .i32⟩
  | 114 => ⟨S4x4x512x512, .i1⟩
  | 115 => ⟨S4x4x512x512, .i1⟩
  | 116 => ⟨S4x4x512x512, .f32⟩
  | 117 => ⟨S4x4x512x512, .f32⟩
  | 118 => ⟨S_, .i32⟩
  | 119 => ⟨S4x4x512x512, .i32⟩
  | 120 => ⟨S4x4x512x512, .i32⟩
  | 121 => ⟨S_, .i32⟩
  | 122 => ⟨S4x4x512x512, .i32⟩
  | 123 => ⟨S4x4x512x512, .i1⟩
  | 124 => ⟨S4x4x512x512, .f32⟩
  | 125 => ⟨S4x4x512x512, .f32⟩
  | 126 => ⟨S_, .i32⟩
  | 127 => ⟨S4x4x512x512, .i32⟩
  | _ => ⟨S4x512x512, .f32⟩

abbrev hbmTy0_5 (i : Nat) : BufTy := match i % 128 with
  | 0 => ⟨S4x4x512x512, .i32⟩
  | 1 => ⟨S_, .i32⟩
  | 2 => ⟨S4x4x512x512, .i32⟩
  | 3 => ⟨S4x4x512x512, .i1⟩
  | 4 => ⟨S4x4x512x512, .f32⟩
  | 5 => ⟨S4x4x512x512, .f32⟩
  | 6 => ⟨S4x4x512x512, .f32⟩
  | 7 => ⟨S4x4x512x512, .f32⟩
  | 8 => ⟨S4x4x512x512, .f32⟩
  | 9 => ⟨S4x4x512x512, .f32⟩
  | 10 => ⟨S4x4x512x512, .f32⟩
  | 11 => ⟨S4x4x512x512, .f32⟩
  | 12 => ⟨S4x4x512x512, .f32⟩
  | 13 => ⟨S4x4x512x512, .f32⟩
  | 14 => ⟨S4x4x512x512, .f32⟩
  | 15 => ⟨S4x4x512x512, .f32⟩
  | 16 => ⟨S1x4x1x1, .f32⟩
  | 17 => ⟨S4x4x512x512, .f32⟩
  | 18 => ⟨S4x4x512x512, .f32⟩
  | 19 => ⟨S_, .f32⟩
  | 20 => ⟨S4x512x512, .f32⟩
  | 21 => ⟨S_, .f32⟩
  | 22 => ⟨S_, .f32⟩
  | 23 => ⟨S4x512x512, .f32⟩
  | 24 => ⟨S4x512x512, .f32⟩
  | 25 => ⟨S_, .f32⟩
  | 26 => ⟨S4x512x512, .f32⟩
  | 27 => ⟨S4x512x512, .f32⟩
  | 28 => ⟨S_, .f32⟩
  | 29 => ⟨S_, .f32⟩
  | 30 => ⟨S_, .f32⟩
  | 31 => ⟨S4x512x512, .f32⟩
  | 32 => ⟨S4x512x512, .f32⟩
  | 33 => ⟨S_, .f32⟩
  | 34 => ⟨S4x512x512, .f32⟩
  | 35 => ⟨S4x512x512, .f32⟩
  | 36 => ⟨S_, .f32⟩
  | 37 => ⟨S4, .f32⟩
  | 38 => ⟨S4x1x1, .f32⟩
  | 39 => ⟨S4x512x512, .f32⟩
  | 40 => ⟨S4x512x512, .f32⟩
  | 41 => ⟨S_, .f32⟩
  | 42 => ⟨S4, .f32⟩
  | 43 => ⟨S_, .f32⟩
  | 44 => ⟨S4, .f32⟩
  | 45 => ⟨S4, .f32⟩
  | 46 => ⟨S4x1x1, .f32⟩
  | 47 => ⟨S4x512x512, .f32⟩
  | 48 => ⟨S4x512x512, .f32⟩
  | 49 => ⟨S4x512x512x1, .f32⟩
  | 50 => ⟨S4x512x512x1, .f32⟩
  | 51 => ⟨S4x512x512x1, .f32⟩
  | 52 => ⟨S4x512x512x3, .f32⟩
  | _ => ⟨S4x512x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4x512x512, .f32⟩

abbrev bufTy : (tb : Table) → Fin (tcTables nBuf tb) → BufTy
  | .hbm, ⟨i, _⟩ => hbmTy i
  | _, _ => ⟨S4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_cst : Ref sig .tc := ⟨.hbm, 43, rfl⟩
abbrev main_call0_v3 : Ref sig .tc := ⟨.hbm, 44, rfl⟩
abbrev main_call0_v4 : Ref sig .tc := ⟨.hbm, 45, rfl⟩
abbrev main_call0_cst_0 : Ref sig .tc := ⟨.hbm, 46, rfl⟩
abbrev main_call0_v5 : Ref sig .tc := ⟨.hbm, 47, rfl⟩
abbrev main_call0_v6 : Ref sig .tc := ⟨.hbm, 48, rfl⟩
abbrev main_call0_cst_1 : Ref sig .tc := ⟨.hbm, 49, rfl⟩
abbrev main_call0_v7 : Ref sig .tc := ⟨.hbm, 50, rfl⟩
abbrev main_call0_v8 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_v12 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_c_4 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_call1_cst : Ref sig .tc := ⟨.hbm, 63, rfl⟩
abbrev main_call1_v3 : Ref sig .tc := ⟨.hbm, 64, rfl⟩
abbrev main_call1_v4 : Ref sig .tc := ⟨.hbm, 65, rfl⟩
abbrev main_call1_cst_0 : Ref sig .tc := ⟨.hbm, 66, rfl⟩
abbrev main_call1_v5 : Ref sig .tc := ⟨.hbm, 67, rfl⟩
abbrev main_call1_v6 : Ref sig .tc := ⟨.hbm, 68, rfl⟩
abbrev main_call1_cst_1 : Ref sig .tc := ⟨.hbm, 69, rfl⟩
abbrev main_call1_v7 : Ref sig .tc := ⟨.hbm, 70, rfl⟩
abbrev main_call1_v8 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_v12 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_c_5 : Ref sig .tc := ⟨.hbm, 79, rfl⟩
abbrev main_call2_v0 : Ref sig .tc := ⟨.hbm, 80, rfl⟩
abbrev main_call2_v1 : Ref sig .tc := ⟨.hbm, 81, rfl⟩
abbrev main_call2_v2 : Ref sig .tc := ⟨.hbm, 82, rfl⟩
abbrev main_call2_cst : Ref sig .tc := ⟨.hbm, 83, rfl⟩
abbrev main_call2_v3 : Ref sig .tc := ⟨.hbm, 84, rfl⟩
abbrev main_call2_v4 : Ref sig .tc := ⟨.hbm, 85, rfl⟩
abbrev main_call2_cst_0 : Ref sig .tc := ⟨.hbm, 86, rfl⟩
abbrev main_call2_v5 : Ref sig .tc := ⟨.hbm, 87, rfl⟩
abbrev main_call2_v6 : Ref sig .tc := ⟨.hbm, 88, rfl⟩
abbrev main_call2_cst_1 : Ref sig .tc := ⟨.hbm, 89, rfl⟩
abbrev main_call2_v7 : Ref sig .tc := ⟨.hbm, 90, rfl⟩
abbrev main_call2_v8 : Ref sig .tc := ⟨.hbm, 91, rfl⟩
abbrev main_call2_v9 : Ref sig .tc := ⟨.hbm, 92, rfl⟩
abbrev main_call2_v10 : Ref sig .tc := ⟨.hbm, 93, rfl⟩
abbrev main_call2_v11 : Ref sig .tc := ⟨.hbm, 94, rfl⟩
abbrev main_call2_v12 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_cst_6 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_cst_7 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_cst_8 : Ref sig .tc := ⟨.hbm, 118, rfl⟩
abbrev main_v56 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_cst_9 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_cst_10 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_cst_11 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_cst_12 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩
abbrev main_cst_13 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_cst_14 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_c_15 : Ref sig .tc := ⟨.hbm, 158, rfl⟩
abbrev main_v89 : Ref sig .tc := ⟨.hbm, 159, rfl⟩
abbrev main_v90 : Ref sig .tc := ⟨.hbm, 160, rfl⟩
abbrev main_c_16 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_c_17 : Ref sig .tc := ⟨.hbm, 168, rfl⟩
abbrev main_v97 : Ref sig .tc := ⟨.hbm, 169, rfl⟩
abbrev main_v98 : Ref sig .tc := ⟨.hbm, 170, rfl⟩
abbrev main_c_18 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_v102 : Ref sig .tc := ⟨.hbm, 175, rfl⟩
abbrev main_v103 : Ref sig .tc := ⟨.hbm, 176, rfl⟩
abbrev main_v104 : Ref sig .tc := ⟨.hbm, 177, rfl⟩
abbrev main_c_19 : Ref sig .tc := ⟨.hbm, 178, rfl⟩
abbrev main_v105 : Ref sig .tc := ⟨.hbm, 179, rfl⟩
abbrev main_v106 : Ref sig .tc := ⟨.hbm, 180, rfl⟩
abbrev main_c_20 : Ref sig .tc := ⟨.hbm, 181, rfl⟩
abbrev main_v107 : Ref sig .tc := ⟨.hbm, 182, rfl⟩
abbrev main_v108 : Ref sig .tc := ⟨.hbm, 183, rfl⟩
abbrev main_c_21 : Ref sig .tc := ⟨.hbm, 184, rfl⟩
abbrev main_v109 : Ref sig .tc := ⟨.hbm, 185, rfl⟩
abbrev main_v110 : Ref sig .tc := ⟨.hbm, 186, rfl⟩
abbrev main_v111 : Ref sig .tc := ⟨.hbm, 187, rfl⟩
abbrev main_v112 : Ref sig .tc := ⟨.hbm, 188, rfl⟩
abbrev main_v113 : Ref sig .tc := ⟨.hbm, 189, rfl⟩
abbrev main_v114 : Ref sig .tc := ⟨.hbm, 190, rfl⟩
abbrev main_c_22 : Ref sig .tc := ⟨.hbm, 191, rfl⟩
abbrev main_v115 : Ref sig .tc := ⟨.hbm, 192, rfl⟩
abbrev main_v116 : Ref sig .tc := ⟨.hbm, 193, rfl⟩
abbrev main_c_23 : Ref sig .tc := ⟨.hbm, 194, rfl⟩
abbrev main_v117 : Ref sig .tc := ⟨.hbm, 195, rfl⟩
abbrev main_v118 : Ref sig .tc := ⟨.hbm, 196, rfl⟩
abbrev main_c_24 : Ref sig .tc := ⟨.hbm, 197, rfl⟩
abbrev main_v119 : Ref sig .tc := ⟨.hbm, 198, rfl⟩
abbrev main_v120 : Ref sig .tc := ⟨.hbm, 199, rfl⟩
abbrev main_v121 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_c_25 : Ref sig .tc := ⟨.hbm, 204, rfl⟩
abbrev main_v125 : Ref sig .tc := ⟨.hbm, 205, rfl⟩
abbrev main_v126 : Ref sig .tc := ⟨.hbm, 206, rfl⟩
abbrev main_c_26 : Ref sig .tc := ⟨.hbm, 207, rfl⟩
abbrev main_v127 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_v131 : Ref sig .tc := ⟨.hbm, 212, rfl⟩
abbrev main_v132 : Ref sig .tc := ⟨.hbm, 213, rfl⟩
abbrev main_c_27 : Ref sig .tc := ⟨.hbm, 214, rfl⟩
abbrev main_v133 : Ref sig .tc := ⟨.hbm, 215, rfl⟩
abbrev main_v134 : Ref sig .tc := ⟨.hbm, 216, rfl⟩
abbrev main_c_28 : Ref sig .tc := ⟨.hbm, 217, rfl⟩
abbrev main_v135 : Ref sig .tc := ⟨.hbm, 218, rfl⟩
abbrev main_v136 : Ref sig .tc := ⟨.hbm, 219, rfl⟩
abbrev main_c_29 : Ref sig .tc := ⟨.hbm, 220, rfl⟩
abbrev main_v137 : Ref sig .tc := ⟨.hbm, 221, rfl⟩
abbrev main_v138 : Ref sig .tc := ⟨.hbm, 222, rfl⟩
abbrev main_v139 : Ref sig .tc := ⟨.hbm, 223, rfl⟩
abbrev main_v140 : Ref sig .tc := ⟨.hbm, 224, rfl⟩
abbrev main_v141 : Ref sig .tc := ⟨.hbm, 225, rfl⟩
abbrev main_v142 : Ref sig .tc := ⟨.hbm, 226, rfl⟩
abbrev main_c_30 : Ref sig .tc := ⟨.hbm, 227, rfl⟩
abbrev main_v143 : Ref sig .tc := ⟨.hbm, 228, rfl⟩
abbrev main_v144 : Ref sig .tc := ⟨.hbm, 229, rfl⟩
abbrev main_c_31 : Ref sig .tc := ⟨.hbm, 230, rfl⟩
abbrev main_v145 : Ref sig .tc := ⟨.hbm, 231, rfl⟩
abbrev main_v146 : Ref sig .tc := ⟨.hbm, 232, rfl⟩
abbrev main_v147 : Ref sig .tc := ⟨.hbm, 233, rfl⟩
abbrev main_v148 : Ref sig .tc := ⟨.hbm, 234, rfl⟩
abbrev main_v149 : Ref sig .tc := ⟨.hbm, 235, rfl⟩
abbrev main_c_32 : Ref sig .tc := ⟨.hbm, 236, rfl⟩
abbrev main_v150 : Ref sig .tc := ⟨.hbm, 237, rfl⟩
abbrev main_v151 : Ref sig .tc := ⟨.hbm, 238, rfl⟩
abbrev main_c_33 : Ref sig .tc := ⟨.hbm, 239, rfl⟩
abbrev main_v152 : Ref sig .tc := ⟨.hbm, 240, rfl⟩
abbrev main_v153 : Ref sig .tc := ⟨.hbm, 241, rfl⟩
abbrev main_v154 : Ref sig .tc := ⟨.hbm, 242, rfl⟩
abbrev main_c_34 : Ref sig .tc := ⟨.hbm, 243, rfl⟩
abbrev main_v155 : Ref sig .tc := ⟨.hbm, 244, rfl⟩
abbrev main_v156 : Ref sig .tc := ⟨.hbm, 245, rfl⟩
abbrev main_c_35 : Ref sig .tc := ⟨.hbm, 246, rfl⟩
abbrev main_v157 : Ref sig .tc := ⟨.hbm, 247, rfl⟩
abbrev main_v158 : Ref sig .tc := ⟨.hbm, 248, rfl⟩
abbrev main_c_36 : Ref sig .tc := ⟨.hbm, 249, rfl⟩
abbrev main_v159 : Ref sig .tc := ⟨.hbm, 250, rfl⟩
abbrev main_v160 : Ref sig .tc := ⟨.hbm, 251, rfl⟩
abbrev main_v161 : Ref sig .tc := ⟨.hbm, 252, rfl⟩
abbrev main_v162 : Ref sig .tc := ⟨.hbm, 253, rfl⟩
abbrev main_v163 : Ref sig .tc := ⟨.hbm, 254, rfl⟩
abbrev main_c_37 : Ref sig .tc := ⟨.hbm, 255, rfl⟩
abbrev main_v164 : Ref sig .tc := ⟨.hbm, 256, rfl⟩
abbrev main_v165 : Ref sig .tc := ⟨.hbm, 257, rfl⟩
abbrev main_c_38 : Ref sig .tc := ⟨.hbm, 258, rfl⟩
abbrev main_v166 : Ref sig .tc := ⟨.hbm, 259, rfl⟩
abbrev main_v167 : Ref sig .tc := ⟨.hbm, 260, rfl⟩
abbrev main_v168 : Ref sig .tc := ⟨.hbm, 261, rfl⟩
abbrev main_v169 : Ref sig .tc := ⟨.hbm, 262, rfl⟩
abbrev main_c_39 : Ref sig .tc := ⟨.hbm, 263, rfl⟩
abbrev main_v170 : Ref sig .tc := ⟨.hbm, 264, rfl⟩
abbrev main_v171 : Ref sig .tc := ⟨.hbm, 265, rfl⟩
abbrev main_c_40 : Ref sig .tc := ⟨.hbm, 266, rfl⟩
abbrev main_v172 : Ref sig .tc := ⟨.hbm, 267, rfl⟩
abbrev main_v173 : Ref sig .tc := ⟨.hbm, 268, rfl⟩
abbrev main_v174 : Ref sig .tc := ⟨.hbm, 269, rfl⟩
abbrev main_v175 : Ref sig .tc := ⟨.hbm, 270, rfl⟩
abbrev main_v176 : Ref sig .tc := ⟨.hbm, 271, rfl⟩
abbrev main_c_41 : Ref sig .tc := ⟨.hbm, 272, rfl⟩
abbrev main_v177 : Ref sig .tc := ⟨.hbm, 273, rfl⟩
abbrev main_v178 : Ref sig .tc := ⟨.hbm, 274, rfl⟩
abbrev main_c_42 : Ref sig .tc := ⟨.hbm, 275, rfl⟩
abbrev main_v179 : Ref sig .tc := ⟨.hbm, 276, rfl⟩
abbrev main_v180 : Ref sig .tc := ⟨.hbm, 277, rfl⟩
abbrev main_v181 : Ref sig .tc := ⟨.hbm, 278, rfl⟩
abbrev main_v182 : Ref sig .tc := ⟨.hbm, 279, rfl⟩
abbrev main_v183 : Ref sig .tc := ⟨.hbm, 280, rfl⟩
abbrev main_cst_43 : Ref sig .tc := ⟨.hbm, 281, rfl⟩
abbrev main_v184 : Ref sig .tc := ⟨.hbm, 282, rfl⟩
abbrev main_v185 : Ref sig .tc := ⟨.hbm, 283, rfl⟩
abbrev main_c_44 : Ref sig .tc := ⟨.hbm, 284, rfl⟩
abbrev main_v186 : Ref sig .tc := ⟨.hbm, 285, rfl⟩
abbrev main_v187 : Ref sig .tc := ⟨.hbm, 286, rfl⟩
abbrev main_c_45 : Ref sig .tc := ⟨.hbm, 287, rfl⟩
abbrev main_v188 : Ref sig .tc := ⟨.hbm, 288, rfl⟩
abbrev main_v189 : Ref sig .tc := ⟨.hbm, 289, rfl⟩
abbrev main_v190 : Ref sig .tc := ⟨.hbm, 290, rfl⟩
abbrev main_c_46 : Ref sig .tc := ⟨.hbm, 291, rfl⟩
abbrev main_v191 : Ref sig .tc := ⟨.hbm, 292, rfl⟩
abbrev main_v192 : Ref sig .tc := ⟨.hbm, 293, rfl⟩
abbrev main_c_47 : Ref sig .tc := ⟨.hbm, 294, rfl⟩
abbrev main_v193 : Ref sig .tc := ⟨.hbm, 295, rfl⟩
abbrev main_v194 : Ref sig .tc := ⟨.hbm, 296, rfl⟩
abbrev main_c_48 : Ref sig .tc := ⟨.hbm, 297, rfl⟩
abbrev main_v195 : Ref sig .tc := ⟨.hbm, 298, rfl⟩
abbrev main_v196 : Ref sig .tc := ⟨.hbm, 299, rfl⟩
abbrev main_v197 : Ref sig .tc := ⟨.hbm, 300, rfl⟩
abbrev main_v198 : Ref sig .tc := ⟨.hbm, 301, rfl⟩
abbrev main_v199 : Ref sig .tc := ⟨.hbm, 302, rfl⟩
abbrev main_c_49 : Ref sig .tc := ⟨.hbm, 303, rfl⟩
abbrev main_v200 : Ref sig .tc := ⟨.hbm, 304, rfl⟩
abbrev main_v201 : Ref sig .tc := ⟨.hbm, 305, rfl⟩
abbrev main_c_50 : Ref sig .tc := ⟨.hbm, 306, rfl⟩
abbrev main_v202 : Ref sig .tc := ⟨.hbm, 307, rfl⟩
abbrev main_v203 : Ref sig .tc := ⟨.hbm, 308, rfl⟩
abbrev main_v204 : Ref sig .tc := ⟨.hbm, 309, rfl⟩
abbrev main_v205 : Ref sig .tc := ⟨.hbm, 310, rfl⟩
abbrev main_c_51 : Ref sig .tc := ⟨.hbm, 311, rfl⟩
abbrev main_v206 : Ref sig .tc := ⟨.hbm, 312, rfl⟩
abbrev main_v207 : Ref sig .tc := ⟨.hbm, 313, rfl⟩
abbrev main_c_52 : Ref sig .tc := ⟨.hbm, 314, rfl⟩
abbrev main_v208 : Ref sig .tc := ⟨.hbm, 315, rfl⟩
abbrev main_v209 : Ref sig .tc := ⟨.hbm, 316, rfl⟩
abbrev main_v210 : Ref sig .tc := ⟨.hbm, 317, rfl⟩
abbrev main_v211 : Ref sig .tc := ⟨.hbm, 318, rfl⟩
abbrev main_v212 : Ref sig .tc := ⟨.hbm, 319, rfl⟩
abbrev main_v213 : Ref sig .tc := ⟨.hbm, 320, rfl⟩
abbrev main_v214 : Ref sig .tc := ⟨.hbm, 321, rfl⟩
abbrev main_v215 : Ref sig .tc := ⟨.hbm, 322, rfl⟩
abbrev main_c_53 : Ref sig .tc := ⟨.hbm, 323, rfl⟩
abbrev main_v216 : Ref sig .tc := ⟨.hbm, 324, rfl⟩
abbrev main_v217 : Ref sig .tc := ⟨.hbm, 325, rfl⟩
abbrev main_c_54 : Ref sig .tc := ⟨.hbm, 326, rfl⟩
abbrev main_v218 : Ref sig .tc := ⟨.hbm, 327, rfl⟩
abbrev main_v219 : Ref sig .tc := ⟨.hbm, 328, rfl⟩
abbrev main_v220 : Ref sig .tc := ⟨.hbm, 329, rfl⟩
abbrev main_v221 : Ref sig .tc := ⟨.hbm, 330, rfl⟩
abbrev main_v222 : Ref sig .tc := ⟨.hbm, 331, rfl⟩
abbrev main_cst_55 : Ref sig .tc := ⟨.hbm, 332, rfl⟩
abbrev main_v223 : Ref sig .tc := ⟨.hbm, 333, rfl⟩
abbrev main_v224 : Ref sig .tc := ⟨.hbm, 334, rfl⟩
abbrev main_c_56 : Ref sig .tc := ⟨.hbm, 335, rfl⟩
abbrev main_v225 : Ref sig .tc := ⟨.hbm, 336, rfl⟩
abbrev main_v226 : Ref sig .tc := ⟨.hbm, 337, rfl⟩
abbrev main_c_57 : Ref sig .tc := ⟨.hbm, 338, rfl⟩
abbrev main_v227 : Ref sig .tc := ⟨.hbm, 339, rfl⟩
abbrev main_v228 : Ref sig .tc := ⟨.hbm, 340, rfl⟩
abbrev main_v229 : Ref sig .tc := ⟨.hbm, 341, rfl⟩
abbrev main_c_58 : Ref sig .tc := ⟨.hbm, 342, rfl⟩
abbrev main_v230 : Ref sig .tc := ⟨.hbm, 343, rfl⟩
abbrev main_v231 : Ref sig .tc := ⟨.hbm, 344, rfl⟩
abbrev main_c_59 : Ref sig .tc := ⟨.hbm, 345, rfl⟩
abbrev main_v232 : Ref sig .tc := ⟨.hbm, 346, rfl⟩
abbrev main_v233 : Ref sig .tc := ⟨.hbm, 347, rfl⟩
abbrev main_c_60 : Ref sig .tc := ⟨.hbm, 348, rfl⟩
abbrev main_v234 : Ref sig .tc := ⟨.hbm, 349, rfl⟩
abbrev main_v235 : Ref sig .tc := ⟨.hbm, 350, rfl⟩
abbrev main_v236 : Ref sig .tc := ⟨.hbm, 351, rfl⟩
abbrev main_v237 : Ref sig .tc := ⟨.hbm, 352, rfl⟩
abbrev main_v238 : Ref sig .tc := ⟨.hbm, 353, rfl⟩
abbrev main_c_61 : Ref sig .tc := ⟨.hbm, 354, rfl⟩
abbrev main_v239 : Ref sig .tc := ⟨.hbm, 355, rfl⟩
abbrev main_v240 : Ref sig .tc := ⟨.hbm, 356, rfl⟩
abbrev main_c_62 : Ref sig .tc := ⟨.hbm, 357, rfl⟩
abbrev main_v241 : Ref sig .tc := ⟨.hbm, 358, rfl⟩
abbrev main_v242 : Ref sig .tc := ⟨.hbm, 359, rfl⟩
abbrev main_v243 : Ref sig .tc := ⟨.hbm, 360, rfl⟩
abbrev main_v244 : Ref sig .tc := ⟨.hbm, 361, rfl⟩
abbrev main_c_63 : Ref sig .tc := ⟨.hbm, 362, rfl⟩
abbrev main_v245 : Ref sig .tc := ⟨.hbm, 363, rfl⟩
abbrev main_v246 : Ref sig .tc := ⟨.hbm, 364, rfl⟩
abbrev main_c_64 : Ref sig .tc := ⟨.hbm, 365, rfl⟩
abbrev main_v247 : Ref sig .tc := ⟨.hbm, 366, rfl⟩
abbrev main_v248 : Ref sig .tc := ⟨.hbm, 367, rfl⟩
abbrev main_v249 : Ref sig .tc := ⟨.hbm, 368, rfl⟩
abbrev main_v250 : Ref sig .tc := ⟨.hbm, 369, rfl⟩
abbrev main_v251 : Ref sig .tc := ⟨.hbm, 370, rfl⟩
abbrev main_c_65 : Ref sig .tc := ⟨.hbm, 371, rfl⟩
abbrev main_v252 : Ref sig .tc := ⟨.hbm, 372, rfl⟩
abbrev main_v253 : Ref sig .tc := ⟨.hbm, 373, rfl⟩
abbrev main_c_66 : Ref sig .tc := ⟨.hbm, 374, rfl⟩
abbrev main_v254 : Ref sig .tc := ⟨.hbm, 375, rfl⟩
abbrev main_v255 : Ref sig .tc := ⟨.hbm, 376, rfl⟩
abbrev main_v256 : Ref sig .tc := ⟨.hbm, 377, rfl⟩
abbrev main_v257 : Ref sig .tc := ⟨.hbm, 378, rfl⟩
abbrev main_v258 : Ref sig .tc := ⟨.hbm, 379, rfl⟩
abbrev main_cst_67 : Ref sig .tc := ⟨.hbm, 380, rfl⟩
abbrev main_v259 : Ref sig .tc := ⟨.hbm, 381, rfl⟩
abbrev main_v260 : Ref sig .tc := ⟨.hbm, 382, rfl⟩
abbrev main_cst_68 : Ref sig .tc := ⟨.hbm, 383, rfl⟩
abbrev main_v261 : Ref sig .tc := ⟨.hbm, 384, rfl⟩
abbrev main_v262 : Ref sig .tc := ⟨.hbm, 385, rfl⟩
abbrev main_c_69 : Ref sig .tc := ⟨.hbm, 386, rfl⟩
abbrev main_v263 : Ref sig .tc := ⟨.hbm, 387, rfl⟩
abbrev main_v264 : Ref sig .tc := ⟨.hbm, 388, rfl⟩
abbrev main_c_70 : Ref sig .tc := ⟨.hbm, 389, rfl⟩
abbrev main_v265 : Ref sig .tc := ⟨.hbm, 390, rfl⟩
abbrev main_v266 : Ref sig .tc := ⟨.hbm, 391, rfl⟩
abbrev main_v267 : Ref sig .tc := ⟨.hbm, 392, rfl⟩
abbrev main_c_71 : Ref sig .tc := ⟨.hbm, 393, rfl⟩
abbrev main_v268 : Ref sig .tc := ⟨.hbm, 394, rfl⟩
abbrev main_v269 : Ref sig .tc := ⟨.hbm, 395, rfl⟩
abbrev main_c_72 : Ref sig .tc := ⟨.hbm, 396, rfl⟩
abbrev main_v270 : Ref sig .tc := ⟨.hbm, 397, rfl⟩
abbrev main_v271 : Ref sig .tc := ⟨.hbm, 398, rfl⟩
abbrev main_c_73 : Ref sig .tc := ⟨.hbm, 399, rfl⟩
abbrev main_v272 : Ref sig .tc := ⟨.hbm, 400, rfl⟩
abbrev main_v273 : Ref sig .tc := ⟨.hbm, 401, rfl⟩
abbrev main_v274 : Ref sig .tc := ⟨.hbm, 402, rfl⟩
abbrev main_v275 : Ref sig .tc := ⟨.hbm, 403, rfl⟩
abbrev main_v276 : Ref sig .tc := ⟨.hbm, 404, rfl⟩
abbrev main_c_74 : Ref sig .tc := ⟨.hbm, 405, rfl⟩
abbrev main_v277 : Ref sig .tc := ⟨.hbm, 406, rfl⟩
abbrev main_v278 : Ref sig .tc := ⟨.hbm, 407, rfl⟩
abbrev main_c_75 : Ref sig .tc := ⟨.hbm, 408, rfl⟩
abbrev main_v279 : Ref sig .tc := ⟨.hbm, 409, rfl⟩
abbrev main_v280 : Ref sig .tc := ⟨.hbm, 410, rfl⟩
abbrev main_v281 : Ref sig .tc := ⟨.hbm, 411, rfl⟩
abbrev main_v282 : Ref sig .tc := ⟨.hbm, 412, rfl⟩
abbrev main_c_76 : Ref sig .tc := ⟨.hbm, 413, rfl⟩
abbrev main_v283 : Ref sig .tc := ⟨.hbm, 414, rfl⟩
abbrev main_v284 : Ref sig .tc := ⟨.hbm, 415, rfl⟩
abbrev main_c_77 : Ref sig .tc := ⟨.hbm, 416, rfl⟩
abbrev main_v285 : Ref sig .tc := ⟨.hbm, 417, rfl⟩
abbrev main_v286 : Ref sig .tc := ⟨.hbm, 418, rfl⟩
abbrev main_v287 : Ref sig .tc := ⟨.hbm, 419, rfl⟩
abbrev main_v288 : Ref sig .tc := ⟨.hbm, 420, rfl⟩
abbrev main_v289 : Ref sig .tc := ⟨.hbm, 421, rfl⟩
abbrev main_v290 : Ref sig .tc := ⟨.hbm, 422, rfl⟩
abbrev main_v291 : Ref sig .tc := ⟨.hbm, 423, rfl⟩
abbrev main_v292 : Ref sig .tc := ⟨.hbm, 424, rfl⟩
abbrev main_v293 : Ref sig .tc := ⟨.hbm, 425, rfl⟩
abbrev main_v294 : Ref sig .tc := ⟨.hbm, 426, rfl⟩
abbrev main_v295 : Ref sig .tc := ⟨.hbm, 427, rfl⟩
abbrev main_c_78 : Ref sig .tc := ⟨.hbm, 428, rfl⟩
abbrev main_v296 : Ref sig .tc := ⟨.hbm, 429, rfl⟩
abbrev main_v297 : Ref sig .tc := ⟨.hbm, 430, rfl⟩
abbrev main_c_79 : Ref sig .tc := ⟨.hbm, 431, rfl⟩
abbrev main_v298 : Ref sig .tc := ⟨.hbm, 432, rfl⟩
abbrev main_v299 : Ref sig .tc := ⟨.hbm, 433, rfl⟩
abbrev main_c_80 : Ref sig .tc := ⟨.hbm, 434, rfl⟩
abbrev main_v300 : Ref sig .tc := ⟨.hbm, 435, rfl⟩
abbrev main_v301 : Ref sig .tc := ⟨.hbm, 436, rfl⟩
abbrev main_v302 : Ref sig .tc := ⟨.hbm, 437, rfl⟩
abbrev main_v303 : Ref sig .tc := ⟨.hbm, 438, rfl⟩
abbrev main_v304 : Ref sig .tc := ⟨.hbm, 439, rfl⟩
abbrev main_cst_81 : Ref sig .tc := ⟨.hbm, 440, rfl⟩
abbrev main_v305 : Ref sig .tc := ⟨.hbm, 441, rfl⟩
abbrev main_v306 : Ref sig .tc := ⟨.hbm, 442, rfl⟩
abbrev main_c_82 : Ref sig .tc := ⟨.hbm, 443, rfl⟩
abbrev main_v307 : Ref sig .tc := ⟨.hbm, 444, rfl⟩
abbrev main_v308 : Ref sig .tc := ⟨.hbm, 445, rfl⟩
abbrev main_c_83 : Ref sig .tc := ⟨.hbm, 446, rfl⟩
abbrev main_v309 : Ref sig .tc := ⟨.hbm, 447, rfl⟩
abbrev main_v310 : Ref sig .tc := ⟨.hbm, 448, rfl⟩
abbrev main_v311 : Ref sig .tc := ⟨.hbm, 449, rfl⟩
abbrev main_c_84 : Ref sig .tc := ⟨.hbm, 450, rfl⟩
abbrev main_v312 : Ref sig .tc := ⟨.hbm, 451, rfl⟩
abbrev main_v313 : Ref sig .tc := ⟨.hbm, 452, rfl⟩
abbrev main_c_85 : Ref sig .tc := ⟨.hbm, 453, rfl⟩
abbrev main_v314 : Ref sig .tc := ⟨.hbm, 454, rfl⟩
abbrev main_v315 : Ref sig .tc := ⟨.hbm, 455, rfl⟩
abbrev main_c_86 : Ref sig .tc := ⟨.hbm, 456, rfl⟩
abbrev main_v316 : Ref sig .tc := ⟨.hbm, 457, rfl⟩
abbrev main_v317 : Ref sig .tc := ⟨.hbm, 458, rfl⟩
abbrev main_v318 : Ref sig .tc := ⟨.hbm, 459, rfl⟩
abbrev main_v319 : Ref sig .tc := ⟨.hbm, 460, rfl⟩
abbrev main_v320 : Ref sig .tc := ⟨.hbm, 461, rfl⟩
abbrev main_c_87 : Ref sig .tc := ⟨.hbm, 462, rfl⟩
abbrev main_v321 : Ref sig .tc := ⟨.hbm, 463, rfl⟩
abbrev main_v322 : Ref sig .tc := ⟨.hbm, 464, rfl⟩
abbrev main_c_88 : Ref sig .tc := ⟨.hbm, 465, rfl⟩
abbrev main_v323 : Ref sig .tc := ⟨.hbm, 466, rfl⟩
abbrev main_v324 : Ref sig .tc := ⟨.hbm, 467, rfl⟩
abbrev main_v325 : Ref sig .tc := ⟨.hbm, 468, rfl⟩
abbrev main_v326 : Ref sig .tc := ⟨.hbm, 469, rfl⟩
abbrev main_c_89 : Ref sig .tc := ⟨.hbm, 470, rfl⟩
abbrev main_v327 : Ref sig .tc := ⟨.hbm, 471, rfl⟩
abbrev main_v328 : Ref sig .tc := ⟨.hbm, 472, rfl⟩
abbrev main_c_90 : Ref sig .tc := ⟨.hbm, 473, rfl⟩
abbrev main_v329 : Ref sig .tc := ⟨.hbm, 474, rfl⟩
abbrev main_v330 : Ref sig .tc := ⟨.hbm, 475, rfl⟩
abbrev main_v331 : Ref sig .tc := ⟨.hbm, 476, rfl⟩
abbrev main_v332 : Ref sig .tc := ⟨.hbm, 477, rfl⟩
abbrev main_v333 : Ref sig .tc := ⟨.hbm, 478, rfl⟩
abbrev main_c_91 : Ref sig .tc := ⟨.hbm, 479, rfl⟩
abbrev main_v334 : Ref sig .tc := ⟨.hbm, 480, rfl⟩
abbrev main_v335 : Ref sig .tc := ⟨.hbm, 481, rfl⟩
abbrev main_c_92 : Ref sig .tc := ⟨.hbm, 482, rfl⟩
abbrev main_v336 : Ref sig .tc := ⟨.hbm, 483, rfl⟩
abbrev main_v337 : Ref sig .tc := ⟨.hbm, 484, rfl⟩
abbrev main_c_93 : Ref sig .tc := ⟨.hbm, 485, rfl⟩
abbrev main_v338 : Ref sig .tc := ⟨.hbm, 486, rfl⟩
abbrev main_v339 : Ref sig .tc := ⟨.hbm, 487, rfl⟩
abbrev main_v340 : Ref sig .tc := ⟨.hbm, 488, rfl⟩
abbrev main_v341 : Ref sig .tc := ⟨.hbm, 489, rfl⟩
abbrev main_v342 : Ref sig .tc := ⟨.hbm, 490, rfl⟩
abbrev main_cst_94 : Ref sig .tc := ⟨.hbm, 491, rfl⟩
abbrev main_v343 : Ref sig .tc := ⟨.hbm, 492, rfl⟩
abbrev main_v344 : Ref sig .tc := ⟨.hbm, 493, rfl⟩
abbrev main_cst_95 : Ref sig .tc := ⟨.hbm, 494, rfl⟩
abbrev main_v345 : Ref sig .tc := ⟨.hbm, 495, rfl⟩
abbrev main_v346 : Ref sig .tc := ⟨.hbm, 496, rfl⟩
abbrev main_c_96 : Ref sig .tc := ⟨.hbm, 497, rfl⟩
abbrev main_v347 : Ref sig .tc := ⟨.hbm, 498, rfl⟩
abbrev main_v348 : Ref sig .tc := ⟨.hbm, 499, rfl⟩
abbrev main_c_97 : Ref sig .tc := ⟨.hbm, 500, rfl⟩
abbrev main_v349 : Ref sig .tc := ⟨.hbm, 501, rfl⟩
abbrev main_v350 : Ref sig .tc := ⟨.hbm, 502, rfl⟩
abbrev main_v351 : Ref sig .tc := ⟨.hbm, 503, rfl⟩
abbrev main_c_98 : Ref sig .tc := ⟨.hbm, 504, rfl⟩
abbrev main_v352 : Ref sig .tc := ⟨.hbm, 505, rfl⟩
abbrev main_v353 : Ref sig .tc := ⟨.hbm, 506, rfl⟩
abbrev main_c_99 : Ref sig .tc := ⟨.hbm, 507, rfl⟩
abbrev main_v354 : Ref sig .tc := ⟨.hbm, 508, rfl⟩
abbrev main_v355 : Ref sig .tc := ⟨.hbm, 509, rfl⟩
abbrev main_c_100 : Ref sig .tc := ⟨.hbm, 510, rfl⟩
abbrev main_v356 : Ref sig .tc := ⟨.hbm, 511, rfl⟩
abbrev main_v357 : Ref sig .tc := ⟨.hbm, 512, rfl⟩
abbrev main_v358 : Ref sig .tc := ⟨.hbm, 513, rfl⟩
abbrev main_v359 : Ref sig .tc := ⟨.hbm, 514, rfl⟩
abbrev main_v360 : Ref sig .tc := ⟨.hbm, 515, rfl⟩
abbrev main_c_101 : Ref sig .tc := ⟨.hbm, 516, rfl⟩
abbrev main_v361 : Ref sig .tc := ⟨.hbm, 517, rfl⟩
abbrev main_v362 : Ref sig .tc := ⟨.hbm, 518, rfl⟩
abbrev main_c_102 : Ref sig .tc := ⟨.hbm, 519, rfl⟩
abbrev main_v363 : Ref sig .tc := ⟨.hbm, 520, rfl⟩
abbrev main_v364 : Ref sig .tc := ⟨.hbm, 521, rfl⟩
abbrev main_v365 : Ref sig .tc := ⟨.hbm, 522, rfl⟩
abbrev main_v366 : Ref sig .tc := ⟨.hbm, 523, rfl⟩
abbrev main_c_103 : Ref sig .tc := ⟨.hbm, 524, rfl⟩
abbrev main_v367 : Ref sig .tc := ⟨.hbm, 525, rfl⟩
abbrev main_v368 : Ref sig .tc := ⟨.hbm, 526, rfl⟩
abbrev main_c_104 : Ref sig .tc := ⟨.hbm, 527, rfl⟩
abbrev main_v369 : Ref sig .tc := ⟨.hbm, 528, rfl⟩
abbrev main_v370 : Ref sig .tc := ⟨.hbm, 529, rfl⟩
abbrev main_v371 : Ref sig .tc := ⟨.hbm, 530, rfl⟩
abbrev main_v372 : Ref sig .tc := ⟨.hbm, 531, rfl⟩
abbrev main_v373 : Ref sig .tc := ⟨.hbm, 532, rfl⟩
abbrev main_v374 : Ref sig .tc := ⟨.hbm, 533, rfl⟩
abbrev main_v375 : Ref sig .tc := ⟨.hbm, 534, rfl⟩
abbrev main_v376 : Ref sig .tc := ⟨.hbm, 535, rfl⟩
abbrev main_c_105 : Ref sig .tc := ⟨.hbm, 536, rfl⟩
abbrev main_v377 : Ref sig .tc := ⟨.hbm, 537, rfl⟩
abbrev main_v378 : Ref sig .tc := ⟨.hbm, 538, rfl⟩
abbrev main_c_106 : Ref sig .tc := ⟨.hbm, 539, rfl⟩
abbrev main_v379 : Ref sig .tc := ⟨.hbm, 540, rfl⟩
abbrev main_v380 : Ref sig .tc := ⟨.hbm, 541, rfl⟩
abbrev main_c_107 : Ref sig .tc := ⟨.hbm, 542, rfl⟩
abbrev main_v381 : Ref sig .tc := ⟨.hbm, 543, rfl⟩
abbrev main_v382 : Ref sig .tc := ⟨.hbm, 544, rfl⟩
abbrev main_v383 : Ref sig .tc := ⟨.hbm, 545, rfl⟩
abbrev main_v384 : Ref sig .tc := ⟨.hbm, 546, rfl⟩
abbrev main_v385 : Ref sig .tc := ⟨.hbm, 547, rfl⟩
abbrev main_cst_108 : Ref sig .tc := ⟨.hbm, 548, rfl⟩
abbrev main_v386 : Ref sig .tc := ⟨.hbm, 549, rfl⟩
abbrev main_v387 : Ref sig .tc := ⟨.hbm, 550, rfl⟩
abbrev main_cst_109 : Ref sig .tc := ⟨.hbm, 551, rfl⟩
abbrev main_v388 : Ref sig .tc := ⟨.hbm, 552, rfl⟩
abbrev main_v389 : Ref sig .tc := ⟨.hbm, 553, rfl⟩
abbrev main_c_110 : Ref sig .tc := ⟨.hbm, 554, rfl⟩
abbrev main_v390 : Ref sig .tc := ⟨.hbm, 555, rfl⟩
abbrev main_v391 : Ref sig .tc := ⟨.hbm, 556, rfl⟩
abbrev main_c_111 : Ref sig .tc := ⟨.hbm, 557, rfl⟩
abbrev main_v392 : Ref sig .tc := ⟨.hbm, 558, rfl⟩
abbrev main_v393 : Ref sig .tc := ⟨.hbm, 559, rfl⟩
abbrev main_v394 : Ref sig .tc := ⟨.hbm, 560, rfl⟩
abbrev main_c_112 : Ref sig .tc := ⟨.hbm, 561, rfl⟩
abbrev main_v395 : Ref sig .tc := ⟨.hbm, 562, rfl⟩
abbrev main_v396 : Ref sig .tc := ⟨.hbm, 563, rfl⟩
abbrev main_c_113 : Ref sig .tc := ⟨.hbm, 564, rfl⟩
abbrev main_v397 : Ref sig .tc := ⟨.hbm, 565, rfl⟩
abbrev main_v398 : Ref sig .tc := ⟨.hbm, 566, rfl⟩
abbrev main_c_114 : Ref sig .tc := ⟨.hbm, 567, rfl⟩
abbrev main_v399 : Ref sig .tc := ⟨.hbm, 568, rfl⟩
abbrev main_v400 : Ref sig .tc := ⟨.hbm, 569, rfl⟩
abbrev main_v401 : Ref sig .tc := ⟨.hbm, 570, rfl⟩
abbrev main_v402 : Ref sig .tc := ⟨.hbm, 571, rfl⟩
abbrev main_v403 : Ref sig .tc := ⟨.hbm, 572, rfl⟩
abbrev main_c_115 : Ref sig .tc := ⟨.hbm, 573, rfl⟩
abbrev main_v404 : Ref sig .tc := ⟨.hbm, 574, rfl⟩
abbrev main_v405 : Ref sig .tc := ⟨.hbm, 575, rfl⟩
abbrev main_c_116 : Ref sig .tc := ⟨.hbm, 576, rfl⟩
abbrev main_v406 : Ref sig .tc := ⟨.hbm, 577, rfl⟩
abbrev main_v407 : Ref sig .tc := ⟨.hbm, 578, rfl⟩
abbrev main_v408 : Ref sig .tc := ⟨.hbm, 579, rfl⟩
abbrev main_v409 : Ref sig .tc := ⟨.hbm, 580, rfl⟩
abbrev main_c_117 : Ref sig .tc := ⟨.hbm, 581, rfl⟩
abbrev main_v410 : Ref sig .tc := ⟨.hbm, 582, rfl⟩
abbrev main_v411 : Ref sig .tc := ⟨.hbm, 583, rfl⟩
abbrev main_c_118 : Ref sig .tc := ⟨.hbm, 584, rfl⟩
abbrev main_v412 : Ref sig .tc := ⟨.hbm, 585, rfl⟩
abbrev main_v413 : Ref sig .tc := ⟨.hbm, 586, rfl⟩
abbrev main_v414 : Ref sig .tc := ⟨.hbm, 587, rfl⟩
abbrev main_v415 : Ref sig .tc := ⟨.hbm, 588, rfl⟩
abbrev main_v416 : Ref sig .tc := ⟨.hbm, 589, rfl⟩
abbrev main_c_119 : Ref sig .tc := ⟨.hbm, 590, rfl⟩
abbrev main_v417 : Ref sig .tc := ⟨.hbm, 591, rfl⟩
abbrev main_v418 : Ref sig .tc := ⟨.hbm, 592, rfl⟩
abbrev main_c_120 : Ref sig .tc := ⟨.hbm, 593, rfl⟩
abbrev main_v419 : Ref sig .tc := ⟨.hbm, 594, rfl⟩
abbrev main_v420 : Ref sig .tc := ⟨.hbm, 595, rfl⟩
abbrev main_c_121 : Ref sig .tc := ⟨.hbm, 596, rfl⟩
abbrev main_v421 : Ref sig .tc := ⟨.hbm, 597, rfl⟩
abbrev main_v422 : Ref sig .tc := ⟨.hbm, 598, rfl⟩
abbrev main_v423 : Ref sig .tc := ⟨.hbm, 599, rfl⟩
abbrev main_v424 : Ref sig .tc := ⟨.hbm, 600, rfl⟩
abbrev main_v425 : Ref sig .tc := ⟨.hbm, 601, rfl⟩
abbrev main_cst_122 : Ref sig .tc := ⟨.hbm, 602, rfl⟩
abbrev main_v426 : Ref sig .tc := ⟨.hbm, 603, rfl⟩
abbrev main_v427 : Ref sig .tc := ⟨.hbm, 604, rfl⟩
abbrev main_cst_123 : Ref sig .tc := ⟨.hbm, 605, rfl⟩
abbrev main_v428 : Ref sig .tc := ⟨.hbm, 606, rfl⟩
abbrev main_v429 : Ref sig .tc := ⟨.hbm, 607, rfl⟩
abbrev main_cst_124 : Ref sig .tc := ⟨.hbm, 608, rfl⟩
abbrev main_v430 : Ref sig .tc := ⟨.hbm, 609, rfl⟩
abbrev main_v431 : Ref sig .tc := ⟨.hbm, 610, rfl⟩
abbrev main_c_125 : Ref sig .tc := ⟨.hbm, 611, rfl⟩
abbrev main_v432 : Ref sig .tc := ⟨.hbm, 612, rfl⟩
abbrev main_v433 : Ref sig .tc := ⟨.hbm, 613, rfl⟩
abbrev main_c_126 : Ref sig .tc := ⟨.hbm, 614, rfl⟩
abbrev main_v434 : Ref sig .tc := ⟨.hbm, 615, rfl⟩
abbrev main_v435 : Ref sig .tc := ⟨.hbm, 616, rfl⟩
abbrev main_v436 : Ref sig .tc := ⟨.hbm, 617, rfl⟩
abbrev main_c_127 : Ref sig .tc := ⟨.hbm, 618, rfl⟩
abbrev main_v437 : Ref sig .tc := ⟨.hbm, 619, rfl⟩
abbrev main_v438 : Ref sig .tc := ⟨.hbm, 620, rfl⟩
abbrev main_c_128 : Ref sig .tc := ⟨.hbm, 621, rfl⟩
abbrev main_v439 : Ref sig .tc := ⟨.hbm, 622, rfl⟩
abbrev main_v440 : Ref sig .tc := ⟨.hbm, 623, rfl⟩
abbrev main_c_129 : Ref sig .tc := ⟨.hbm, 624, rfl⟩
abbrev main_v441 : Ref sig .tc := ⟨.hbm, 625, rfl⟩
abbrev main_v442 : Ref sig .tc := ⟨.hbm, 626, rfl⟩
abbrev main_v443 : Ref sig .tc := ⟨.hbm, 627, rfl⟩
abbrev main_v444 : Ref sig .tc := ⟨.hbm, 628, rfl⟩
abbrev main_v445 : Ref sig .tc := ⟨.hbm, 629, rfl⟩
abbrev main_c_130 : Ref sig .tc := ⟨.hbm, 630, rfl⟩
abbrev main_v446 : Ref sig .tc := ⟨.hbm, 631, rfl⟩
abbrev main_v447 : Ref sig .tc := ⟨.hbm, 632, rfl⟩
abbrev main_c_131 : Ref sig .tc := ⟨.hbm, 633, rfl⟩
abbrev main_v448 : Ref sig .tc := ⟨.hbm, 634, rfl⟩
abbrev main_v449 : Ref sig .tc := ⟨.hbm, 635, rfl⟩
abbrev main_v450 : Ref sig .tc := ⟨.hbm, 636, rfl⟩
abbrev main_v451 : Ref sig .tc := ⟨.hbm, 637, rfl⟩
abbrev main_c_132 : Ref sig .tc := ⟨.hbm, 638, rfl⟩
abbrev main_v452 : Ref sig .tc := ⟨.hbm, 639, rfl⟩
abbrev main_v453 : Ref sig .tc := ⟨.hbm, 640, rfl⟩
abbrev main_c_133 : Ref sig .tc := ⟨.hbm, 641, rfl⟩
abbrev main_v454 : Ref sig .tc := ⟨.hbm, 642, rfl⟩
abbrev main_v455 : Ref sig .tc := ⟨.hbm, 643, rfl⟩
abbrev main_v456 : Ref sig .tc := ⟨.hbm, 644, rfl⟩
abbrev main_v457 : Ref sig .tc := ⟨.hbm, 645, rfl⟩
abbrev main_v458 : Ref sig .tc := ⟨.hbm, 646, rfl⟩
abbrev main_v459 : Ref sig .tc := ⟨.hbm, 647, rfl⟩
abbrev main_v460 : Ref sig .tc := ⟨.hbm, 648, rfl⟩
abbrev main_v461 : Ref sig .tc := ⟨.hbm, 649, rfl⟩
abbrev main_v462 : Ref sig .tc := ⟨.hbm, 650, rfl⟩
abbrev main_v463 : Ref sig .tc := ⟨.hbm, 651, rfl⟩
abbrev main_v464 : Ref sig .tc := ⟨.hbm, 652, rfl⟩
abbrev main_v465 : Ref sig .tc := ⟨.hbm, 653, rfl⟩
abbrev main_v466 : Ref sig .tc := ⟨.hbm, 654, rfl⟩
abbrev main_v467 : Ref sig .tc := ⟨.hbm, 655, rfl⟩
abbrev main_v468 : Ref sig .tc := ⟨.hbm, 656, rfl⟩
abbrev main_v469 : Ref sig .tc := ⟨.hbm, 657, rfl⟩
abbrev main_v470 : Ref sig .tc := ⟨.hbm, 658, rfl⟩
abbrev main_cst_134 : Ref sig .tc := ⟨.hbm, 659, rfl⟩
abbrev main_v471 : Ref sig .tc := ⟨.hbm, 660, rfl⟩
abbrev main_cst_135 : Ref sig .tc := ⟨.hbm, 661, rfl⟩
abbrev main_v472 : Ref sig .tc := ⟨.hbm, 662, rfl⟩
abbrev main_v473 : Ref sig .tc := ⟨.hbm, 663, rfl⟩
abbrev main_v474 : Ref sig .tc := ⟨.hbm, 664, rfl⟩
abbrev main_cst_136 : Ref sig .tc := ⟨.hbm, 665, rfl⟩
abbrev main_v475 : Ref sig .tc := ⟨.hbm, 666, rfl⟩
abbrev main_v476 : Ref sig .tc := ⟨.hbm, 667, rfl⟩
abbrev main_cst_137 : Ref sig .tc := ⟨.hbm, 668, rfl⟩
abbrev main_cst_138 : Ref sig .tc := ⟨.hbm, 669, rfl⟩
abbrev main_call43_v0 : Ref sig .tc := ⟨.hbm, 670, rfl⟩
abbrev main_call43_v1 : Ref sig .tc := ⟨.hbm, 671, rfl⟩
abbrev main_call43_v2 : Ref sig .tc := ⟨.hbm, 672, rfl⟩
abbrev main_call43_v3 : Ref sig .tc := ⟨.hbm, 673, rfl⟩
abbrev main_call43_v4 : Ref sig .tc := ⟨.hbm, 674, rfl⟩
abbrev main_v477 : Ref sig .tc := ⟨.hbm, 675, rfl⟩
abbrev main_cst_139 : Ref sig .tc := ⟨.hbm, 676, rfl⟩
abbrev main_v478 : Ref sig .tc := ⟨.hbm, 677, rfl⟩
abbrev main_v479 : Ref sig .tc := ⟨.hbm, 678, rfl⟩
abbrev main_v480 : Ref sig .tc := ⟨.hbm, 679, rfl⟩
abbrev main_v481 : Ref sig .tc := ⟨.hbm, 680, rfl⟩
abbrev main_cst_140 : Ref sig .tc := ⟨.hbm, 681, rfl⟩
abbrev main_v482 : Ref sig .tc := ⟨.hbm, 682, rfl⟩
abbrev main_cst_141 : Ref sig .tc := ⟨.hbm, 683, rfl⟩
abbrev main_v483 : Ref sig .tc := ⟨.hbm, 684, rfl⟩
abbrev main_v484 : Ref sig .tc := ⟨.hbm, 685, rfl⟩
abbrev main_v485 : Ref sig .tc := ⟨.hbm, 686, rfl⟩
abbrev main_v486 : Ref sig .tc := ⟨.hbm, 687, rfl⟩
abbrev main_v487 : Ref sig .tc := ⟨.hbm, 688, rfl⟩
abbrev main_v488 : Ref sig .tc := ⟨.hbm, 689, rfl⟩
abbrev main_v489 : Ref sig .tc := ⟨.hbm, 690, rfl⟩
abbrev main_v490 : Ref sig .tc := ⟨.hbm, 691, rfl⟩
abbrev main_v491 : Ref sig .tc := ⟨.hbm, 692, rfl⟩

abbrev nD : Nat := 1
abbrev τ : Topo := Topo.v7x

variable {F : FTy → Type} [FloatOps F]
-- ==== Proof.PreHashes.lean ====
/- The precondition on the table read at an index: the table's words are hashes. -/
module

public import proofs.«01_k».proof.Defs
public import proofs.«01_k».proof.Proof.Gen.Pre_hashes
public import Idealize.ShloMosaic.Lib.Pointwise

@[expose] public section

set_option maxRecDepth 16384

noncomputable section

namespace Cert.Hand

open Idealize.ShloMosaic

theorem andi_ofBool (p q : Bool) : IntOp.andi (BitVec.ofBool p) (BitVec.ofBool q) = BitVec.ofBool (p && q) := by
  cases p <;> cases q <;> decide

theorem ofBool_eq_one (p : Bool) : (BitVec.ofBool p = 1#1) ↔ p = true := by cases p <;> decide

/-- A word that is at least 0 and less than 256 as a signed number is less than 256 as an unsigned one. -/
theorem hash_of_signed {v : BitVec 32} (h0 : BitVec.sle 0#32 v = true) (h1 : BitVec.slt v 256#32 = true) : v.toNat < 256 := by
  simp only [BitVec.sle, BitVec.slt, decide_eq_true_eq, BitVec.toInt, BitVec.toNat_ofNat] at h0 h1
  omega

/-- `hashes` all ones: every word of the table is below 256. -/
theorem hashes_iff {F : FTy → Type} [FloatOps F] (x y z : FVec F Pre_hashes.S4x512x512 .f32) (p : IVec Pre_hashes.S4x512 32)
    (h : Pre_hashes.fn (F := F) x y z p = fun _ => 1#1) (j : Pre_hashes.S4x512.Idx) : (p j).toNat < 256 := by
  have e := congrFun h j
  simp only [Pre_hashes.fn, andi, cmpi, broadcastInDim, constantI, IntOp.cmpi, andi_ofBool, ofBool_eq_one, Bool.and_eq_true] at e
  exact hash_of_signed e.1 e.2

end Cert.Hand

end
-- ==== Proof.PreLattice.lean ====
/- The precondition of the value claim read at an index: the coordinates form a lattice and the table holds hashes. -/
module

public import proofs.«01_k».proof.Defs
public import proofs.«01_k».proof.Proof.PreHashes
public import proofs.«01_k».proof.Proof.Gen.Pre_lattice
public import Idealize.ShloMosaic.Lib.Pointwise

@[expose] public section

set_option maxRecDepth 16384

noncomputable section

namespace Cert.Hand

open Idealize.ShloMosaic

/-- The bound on the coordinates, 12.5. -/
theorem ofBits_bound : (Ideal.ofBits .f32 0x41480000#32 : EReal) = ((25 / 2 : ℝ) : EReal) := by
  simp [Ideal.ofBits, Ideal.ieee, -EReal.coe_mul]; norm_num

/-- The scale, 100. -/
theorem ofBits_hundred : (Ideal.ofBits .f32 0x42C80000#32 : EReal) = ((100 : ℝ) : EReal) := by
  simp [Ideal.ofBits, Ideal.ieee, -EReal.coe_mul]; norm_num

/-- An image's number as a word, read back as an integer. -/
theorem toInt_small (b : Fin 4) : (((BitVec.ofNat 32 b.val).toInt : ℤ) : ℝ) = (b.val : ℝ) := by
  fin_cases b <;> simp

/-- `lattice` all ones, at the ideal instance: every row of `x` is the image's row 0, whose values lie in [0, 12.5);
    `y` at row `i` is that row's value at `i`; `z` is the image's number over 100; and the table holds hashes. -/
theorem lattice_reads (x y z : FVec Ideal Pre_lattice.S4x512x512 .f32) (p : IVec Pre_lattice.S4x512 32)
    (h : (Pre_lattice.fn (F := Ideal) x y z p).1 = fun _ => 1#1) (h' : (Pre_lattice.fn (F := Ideal) x y z p).2 = fun _ => 1#1) :
    (∀ (b : Fin 4) (i j : Fin 512), x (ix3 b i j) = x (ix3 b 0 j) ∧ (0 : EReal) ≤ x (ix3 b i j) ∧ x (ix3 b i j) < ((25 / 2 : ℝ) : EReal)
        ∧ y (ix3 b i j) = x (ix3 b 0 i) ∧ z (ix3 b i j) = (((b.val : ℝ) / 100 : ℝ) : EReal))
      ∧ ∀ j, (p j).toNat < 256 := by
  refine ⟨?_, fun j => ?_⟩
  · intro b i j
    have e := congrFun h (ix3 b i j)
    pointwise [Pre_lattice.fn, Pre_lattice.fn_part1] at e
    simp only [andi_ofBool, ofBool_eq_one, Bool.and_eq_true, decide_eq_true_eq] at e
    obtain ⟨⟨⟨⟨e1, e2⟩, e3⟩, e4⟩, e5⟩ := e
    refine ⟨e1, e2, e3.trans_le (le_of_eq ofBits_bound), e4, e5.trans ?_⟩
    rw [ofBits_hundred]
    show Ideal.div ((((BitVec.ofNat 32 b.val).toInt : ℝ)) : EReal) _ = _
    rw [toInt_small b, Ideal.div_coe (by norm_num)]
    rw [← EReal.coe_mul]
    exact congrArg _ (by ring)
  · have e := congrFun h' j
    simp only [Pre_lattice.fn, Pre_lattice.fn_part1, andi, cmpi, broadcastInDim, constantI, IntOp.cmpi, andi_ofBool, ofBool_eq_one, Bool.and_eq_true] at e
    exact hash_of_signed e.1 e.2

end Cert.Hand

end
-- ==== Proof.Checks.lean ====
/-
  The side conditions the kernel body assumes of the table words it reads, under the precondition that every word of
  the permutation table lies in 0 … 255: a word `v` and its successor then name a column of the 4 × 512 table.
-/
module

public import proofs.«01_k».proof.Proof.Gen.KernelIdeal.Frame

@[expose] public section

namespace Cert.KernelIdeal.Hand

open Idealize.ShloMosaic Cert.KernelIdeal

/-- The grid coordinate as a word is the coordinate: there are four grid points. -/
theorem coord_toNat (i : grid0.Coords) : (BitVec.ofNat 32 (i 0).val).toNat < 4 := by
  have h : (i 0).val < 4 := (i 0).isLt
  rw [BitVec.toNat_ofNat]; omega

/-- A one-word rectangle at row `r < 4` and column `k < 512` lies inside the table. -/
theorem inside {r k : Nat} (hr : r < 4) (hk : k < 512) : ∀ a, (![r, k] : Fin 2 → Nat) a + S1x1.size a ≤ S4x512.size a := by
  intro a
  fin_cases a
  · show r + 1 ≤ 4; omega
  · show k + 1 ≤ 512; omega

/-- A word below 256 names a column. -/
theorem below {v : BitVec 32} (h : v.toNat < 256) : (Scalar.indexCast v : Index).toNat < 512 := by
  show v.toNat < 512; omega

/-- So does its successor. -/
theorem succ_below {v : BitVec 32} (h : v.toNat < 256) : (Scalar.indexCast (Scalar.addi v 1#32) : Index).toNat < 512 := by
  show (v + 1#32).toNat < 512
  rw [BitVec.toNat_add]
  have : (1#32 : BitVec 32).toNat = 1 := rfl
  omega

/-- The column of a word below 256 and the one after it are inside the table, on every grid point's row. -/
theorem pair_inside (i : grid0.Coords) {v : BitVec 32} (h : v.toNat < 256) :
    (∀ a, (![(Scalar.indexCast (BitVec.ofNat 32 (i 0).val) : Index).toNat, (Scalar.indexCast v : Index).toNat] : Fin 2 → Nat) a
        + S1x1.size a ≤ S4x512.size a)
    ∧ ∀ a, (![(Scalar.indexCast (BitVec.ofNat 32 (i 0).val) : Index).toNat,
        (Scalar.indexCast (Scalar.addi v 1#32) : Index).toNat] : Fin 2 → Nat) a + S1x1.size a ≤ S4x512.size a :=
  ⟨inside (coord_toNat i) (below h), inside (coord_toNat i) (succ_below h)⟩

theorem chk1 (i : grid0.Coords) {v : BitVec 32} (h : v.toNat < 256) : k0_chk1 i v := pair_inside i h
theorem chk2 (i : grid0.Coords) {v : BitVec 32} (h : v.toNat < 256) : k0_chk2 i v := pair_inside i h
theorem chk3 (i : grid0.Coords) {v : BitVec 32} (h : v.toNat < 256) : k0_chk3 i v := pair_inside i h
theorem chk4 (i : grid0.Coords) {v : BitVec 32} (h : v.toNat < 256) : k0_chk4 i v := pair_inside i h
theorem chk5 (i : grid0.Coords) {v : BitVec 32} (h : v.toNat < 256) : k0_chk5 i v := pair_inside i h
theorem chk6 (i : grid0.Coords) {v : BitVec 32} (h : v.toNat < 256) : k0_chk6 i v := pair_inside i h

end Cert.KernelIdeal.Hand

end
-- ==== Proof.Noise.lean ====
/-
  What the kernel body computes at one grid point, written as a function of the eight hash words it reads off the
  permutation table and of the row of coordinates it loads: the gradient coefficients of a hash word, the fade
  curve, one octave of the noise as a sum of products of rows and columns, and the whole normalised image. One
  definition serves all four octaves and one all eight corners of the cell.
-/
module

public import proofs.«01_k».proof.Proof.Gen.KernelIdeal.Frame

@[expose] public section

noncomputable section

namespace Cert.KernelIdeal.Hand

open Idealize.ShloMosaic Cert.KernelIdeal Facts₀ Facts

variable {F : FTy → Type} [FloatOps F]

/-- A row of the image, one number per lane. -/
abbrev Row (F : FTy → Type) : Type := FVec F S1x512 .f32

/-- The eight hash words of the corners of the noise's cell. -/
structure Words where
  (h0 h1 h2 h3 h4 h5 h6 h7 : BitVec 32)

/-- The literal with the bits `b`. -/
abbrev lit (b : BitVec 32) : F .f32 := Scalar.ofBits .f32 b

/-- The same number in every lane. -/
def spread (a : F .f32) : Row F := broadcast S1x512 a

/-! ## A hash word's gradient -/

/-- The sign the lowest bit of the word selects. -/
def sign1 (h : BitVec 32) : F .f32 :=
  Scalar.select (Scalar.cmpi .eq (Scalar.andi (Scalar.andi h 15#32) 1#32) 0#32) (lit 0x3F800000#32) (lit 0xBF800000#32)

/-- The sign the next bit selects. -/
def sign2 (h : BitVec 32) : F .f32 :=
  Scalar.select (Scalar.cmpi .eq (Scalar.andi (Scalar.andi h 15#32) 2#32) 0#32) (lit 0x3F800000#32) (lit 0xBF800000#32)

/-- Whether the gradient's first term is along x. -/
def firstX (h : BitVec 32) : BitVec 1 := Scalar.cmpi .slt (Scalar.andi h 15#32) 8#32

/-- Whether its second term is along y. -/
def secondY (h : BitVec 32) : BitVec 1 := Scalar.cmpi .slt (Scalar.andi h 15#32) 4#32

/-- Whether its second term is along x, where it is not along y. -/
def secondX (h : BitVec 32) : BitVec 1 :=
  Scalar.ori (Scalar.cmpi .eq (Scalar.andi h 15#32) 12#32) (Scalar.cmpi .eq (Scalar.andi h 15#32) 14#32)

/-- The gradient's coefficient along x, -/
def gradX (h : BitVec 32) : F .f32 :=
  Scalar.addf (Scalar.select (firstX h) (sign1 h) (lit 0#32))
    (Scalar.select (Scalar.andi (Scalar.xori (secondY h) 1#1) (secondX h)) (sign2 h) (lit 0#32))

/-- along y, -/
def gradY (h : BitVec 32) : F .f32 :=
  Scalar.addf (Scalar.select (Scalar.xori (firstX h) 1#1) (sign1 h) (lit 0#32))
    (Scalar.select (secondY h) (sign2 h) (lit 0#32))

/-- and along z. -/
def gradZ (h : BitVec 32) : F .f32 :=
  Scalar.select (Scalar.andi (Scalar.xori (secondY h) 1#1) (Scalar.xori (secondX h) 1#1)) (sign2 h) (lit 0#32)

/-! ## The curves -/

/-- The fade curve of a row, `t³ (t (6 t − 15) + 10)`. -/
def fade (t : Row F) : Row F :=
  mulf (mulf (mulf t t) t) (addf (mulf t (subf (mulf (spread (lit 0x40C00000#32)) t) (spread (lit 0x41700000#32))))
    (spread (lit 0x41200000#32)))

/-- The fade curve of a number. -/
def fadeZ (t : F .f32) : F .f32 :=
  Scalar.mulf (Scalar.mulf (Scalar.mulf t t) t)
    (Scalar.addf (Scalar.mulf t (Scalar.subf (Scalar.mulf (lit 0x40C00000#32) t) (lit 0x41700000#32))) (lit 0x41200000#32))

/-- From `a` to `b` along `t`. -/
def mix (t a b : Row F) : Row F := addf a (mulf t (subf b a))

/-- A row's mean. -/
def mean (t : Row F) : F .f32 :=
  Scalar.divf (extractAt ![0, 0, 0]
    (shapeCast S1x1x1 (multiReduction .add [1, 2] S1 (shapeCast S1x1x512 t shapeCasts_S1x512_S1x1x512) 0x00000000#32
      reduces_S1x1x512_S1 (.inl rfl) rfl) shapeCasts_S1_S1x1x1) inpos_S1x1x1_p0_0_0) (lit 0x44000000#32)

/-- A row less its mean. -/
def centred (t : Row F) : Row F := subf t (spread (mean t))

/-! ## One octave -/

/-- What the gradient of corner word `h`, at offset `dx` along x and `dz` along z, contributes along x and z. -/
def alpha (h : BitVec 32) (dx dz : F .f32) (x : Row F) (z : F .f32) : Row F :=
  addf (mulf (spread (gradX h)) x) (spread (Scalar.addf (Scalar.mulf (gradX h) dx) (Scalar.mulf (gradZ h) (Scalar.addf z dz))))

/-- What it contributes along y, at offset `dy`. -/
def beta (h : BitVec 32) (dy : F .f32) (y : Row F) : Row F :=
  addf (mulf (spread (gradY h)) y) (spread (Scalar.mulf (gradY h) dy))

/-- The offsets of a cell's corners, nought and minus one. -/
abbrev near : F .f32 := lit 0x00000000#32
abbrev far : F .f32 := lit 0xBF800000#32

/-- The x-and-z contributions of two corners apart along x, mixed by the fade of x. -/
def alphas (h h' : BitVec 32) (dz : F .f32) (x : Row F) (z : F .f32) : Row F :=
  mix (fade x) (alpha h near dz x z) (alpha h' far dz x z)

/-- The octave's part that varies along x alone, -/
def colPart (w : Words) (x : Row F) (z : F .f32) : Row F :=
  mix (spread (fadeZ z)) (alphas w.h0 w.h1 near x z) (alphas w.h4 w.h5 far x z)

/-- and the part along x that the fade of y multiplies. -/
def colSlope (w : Words) (x : Row F) (z : F .f32) : Row F :=
  mix (spread (fadeZ z)) (subf (alphas w.h2 w.h3 near x z) (alphas w.h0 w.h1 near x z))
    (subf (alphas w.h6 w.h7 far x z) (alphas w.h4 w.h5 far x z))

/-- The octave's part that varies along y alone, -/
def rowPart (w : Words) (y : Row F) (z : F .f32) : Row F :=
  mix (spread (fadeZ z)) (mix (fade y) (beta w.h0 near y) (beta w.h2 far y)) (mix (fade y) (beta w.h4 near y) (beta w.h6 far y))

/-- and the part along y that the fade of x multiplies. -/
def rowSlope (w : Words) (y : Row F) (z : F .f32) : Row F :=
  mix (spread (fadeZ z))
    (mix (fade y) (subf (beta w.h1 near y) (beta w.h0 near y)) (subf (beta w.h3 far y) (beta w.h2 far y)))
    (mix (fade y) (subf (beta w.h5 near y) (beta w.h4 near y)) (subf (beta w.h7 far y) (beta w.h6 far y)))

/-- The two sums the octaves add up: the terms along x alone and those along y alone. -/
structure Sums (F : FTy → Type) where
  (col row : Row F)

/-- An octave's scaled slopes and its fade: what it adds to the sums and the rows it contributes to the product. -/
structure Octave (F : FTy → Type) where
  (fade col row colSlope rowSlope : Row F)

/-- The octave at scale `s` and amplitude `a`. -/
def octave (w : Words) (x : Row F) (z s a : F .f32) : Octave F where
  fade := fade (mulf x (spread s))
  col := mulf (spread a) (colPart w (mulf x (spread s)) (Scalar.mulf z s))
  row := mulf (spread a) (rowPart w (mulf x (spread s)) (Scalar.mulf z s))
  colSlope := mulf (spread a) (colSlope w (mulf x (spread s)) (Scalar.mulf z s))
  rowSlope := mulf (spread a) (rowSlope w (mulf x (spread s)) (Scalar.mulf z s))

/-- The sums with an octave's terms added. -/
def Sums.add (t : Sums F) (o : Octave F) : Sums F where
  col := addf (addf (addf t.col o.col) (mulf (spread (mean o.fade)) o.colSlope)) (mulf (spread (mean o.rowSlope)) (centred o.fade))
  row := addf (addf (addf t.row o.row) (mulf (spread (mean o.colSlope)) (centred o.fade))) (mulf (spread (mean o.fade)) o.rowSlope)

/-- The sums of four octaves. -/
def sums (o1 o2 o4 o8 : Octave F) : Sums F :=
  ((((Sums.mk (spread (lit 0#32)) (spread (lit 0#32))).add o1).add o2).add o4).add o8

/-! ## The image -/

/-- The sum of the octaves over the image: one product of two stacks of ten rows. -/
def total (o1 o2 o4 o8 : Octave F) : FVec F S512x512 .f32 :=
  matmul dot_S10x512_S10x512_S512x512_0_0_1_1_n_n (some .fp32)
    (concatenate S10x512 0 [⟨S1x512, spread (lit 0x3F800000#32)⟩, ⟨S1x512, (sums o1 o2 o4 o8).row⟩,
      ⟨S1x512, centred o1.fade⟩, ⟨S1x512, centred o1.rowSlope⟩, ⟨S1x512, centred o2.fade⟩, ⟨S1x512, centred o2.rowSlope⟩,
      ⟨S1x512, centred o4.fade⟩, ⟨S1x512, centred o4.rowSlope⟩, ⟨S1x512, centred o8.fade⟩, ⟨S1x512, centred o8.rowSlope⟩]
      concatenates_S1x512_S1x512_S1x512_S1x512_S1x512_S1x512_S1x512_S1x512_S1x512_S1x512_S10x512_d0)
    (concatenate S10x512 0 [⟨S1x512, (sums o1 o2 o4 o8).col⟩, ⟨S1x512, spread (lit 0x3F800000#32)⟩,
      ⟨S1x512, centred o1.colSlope⟩, ⟨S1x512, centred o1.fade⟩, ⟨S1x512, centred o2.colSlope⟩, ⟨S1x512, centred o2.fade⟩,
      ⟨S1x512, centred o4.colSlope⟩, ⟨S1x512, centred o4.fade⟩, ⟨S1x512, centred o8.colSlope⟩, ⟨S1x512, centred o8.fade⟩]
      concatenates_S1x512_S1x512_S1x512_S1x512_S1x512_S1x512_S1x512_S1x512_S1x512_S1x512_S10x512_d0)
    (constant S512x512 .f32 0x00000000#32)

/-- Clipped to the unit interval. -/
def clipped (t : FVec F S512x512 .f32) : FVec F S512x512 .f32 :=
  minimumf (broadcast S512x512 (lit 0x3F800000#32)) (maximumf (broadcast S512x512 (lit 0x00000000#32)) t)

/-- The image's least value, -/
def least (n : FVec F S512x512 .f32) : F .f32 :=
  extractAt ![0, 0, 0] (shapeCast S1x1x1 (multiReduction .minimumf [1, 2] S1
    (shapeCast S1x512x512 n shapeCasts_S512x512_S1x512x512) 0x7F800000#32 reduces_S1x512x512_S1 (.inl rfl) rfl) shapeCasts_S1_S1x1x1)
    inpos_S1x1x1_p0_0_0

/-- and its greatest. -/
def greatest (n : FVec F S512x512 .f32) : F .f32 :=
  extractAt ![0, 0, 0] (shapeCast S1x1x1 (multiReduction .maximumf [1, 2] S1
    (shapeCast S1x512x512 n shapeCasts_S512x512_S1x512x512) 0xFF800000#32 reduces_S1x512x512_S1 (.inl rfl) rfl) shapeCasts_S1_S1x1x1)
    inpos_S1x1x1_p0_0_0

/-- Stretched to the unit interval, as the block the kernel stores. -/
def stretched (n : FVec F S512x512 .f32) : FVec F S1x512x512 .f32 :=
  shapeCast S1x512x512 (divf (subf n (broadcast S512x512 (least n))) (broadcast S512x512 (Scalar.subf (greatest n) (least n))))
    shapeCasts_S512x512_S1x512x512

variable [Named F]

/-- The image's height: the grid coordinate over a hundred. -/
def height (i : grid0.Coords) : F .f32 :=
  Scalar.mulf (Scalar.sitofp .f32 (BitVec.ofNat 32 (i 0).val)) (Named.named κ "s1" 0x3C23D70A#32)

/-- The image of the eight words and the row of coordinates at grid point `i`. -/
def picture (i : grid0.Coords) (w : Words) (x : Row F) : FVec F S1x512x512 .f32 :=
  stretched (clipped (total
    (octave w x (height i) (Named.named κ "s1" 0x3C23D70A#32) (Named.named κ "a1" 0x3F088889#32))
    (octave w x (height i) (Named.named κ "s2" 0x3CA3D70A#32) (Named.named κ "a2" 0x3E888889#32))
    (octave w x (height i) (Named.named κ "s4" 0x3D23D70A#32) (Named.named κ "a4" 0x3E088889#32))
    (octave w x (height i) (Named.named κ "s8" 0x3DA3D70A#32) (Named.named κ "a8" 0x3D888889#32))))

/-! ## The words -/

/-- The corners' words as the body chases them through the table: `rd off` is the word at the offsets `off`, each
    below 256. -/
def chase (i : grid0.Coords) (rd : ∀ off : Fin 2 → Nat, (∀ a, off a + S1x1.size a ≤ S4x512.size a) → BitVec 32)
    (c1 : ∀ off inb, k0_chk1 i (rd off inb)) (c2 : ∀ off inb, k0_chk2 i (rd off inb)) (c3 : ∀ off inb, k0_chk3 i (rd off inb))
    (c4 : ∀ off inb, k0_chk4 i (rd off inb)) (c5 : ∀ off inb, k0_chk5 i (rd off inb)) (c6 : ∀ off inb, k0_chk6 i (rd off inb)) : Words :=
  let A := rd (k0_off1 i) (k0_off1_inb i)
  let B := rd (k0_off2 i) (k0_off2_inb i)
  let AA := rd (k0_off3 i A) (k0_off3_inb i A (c1 _ _))
  let AB := rd (k0_off4 i A) (k0_off4_inb i A (c1 _ _))
  let BA := rd (k0_off5 i B) (k0_off5_inb i B (c2 _ _))
  let BB := rd (k0_off6 i B) (k0_off6_inb i B (c2 _ _))
  { h0 := rd (k0_off7 i AA) (k0_off7_inb i AA (c3 _ _))
    h1 := rd (k0_off8 i BA) (k0_off8_inb i BA (c4 _ _))
    h2 := rd (k0_off9 i AB) (k0_off9_inb i AB (c5 _ _))
    h3 := rd (k0_off10 i BB) (k0_off10_inb i BB (c6 _ _))
    h4 := rd (k0_off11 i AA) (k0_off11_inb i AA (c3 _ _))
    h5 := rd (k0_off12 i BA) (k0_off12_inb i BA (c4 _ _))
    h6 := rd (k0_off13 i AB) (k0_off13_inb i AB (c5 _ _))
    h7 := rd (k0_off14 i BB) (k0_off14_inb i BB (c6 _ _)) }

end Cert.KernelIdeal.Hand

end
-- ==== Proof.Body.lean ====
/- The body of the idealized kernel: from a table of hashes it runs, every read of the table lies inside it, and the block
   it stores is the picture of the table's words and the block's row of coordinates. -/
module

public import proofs.«01_k».proof.Proof.Checks
public import proofs.«01_k».proof.Proof.Noise
public import proofs.«01_k».proof.Proof.Gen.KernelIdeal.Skeleton
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The word at `off` of the table `x0`. -/
def word (x0 : Vec F S4x512 .i32) (off : Fin 2 → Nat) (inb : ∀ a, off a + S1x1.size a ≤ S4x512.size a) : BitVec 32 :=
  x0 ((Rect.unit (s := S4x512) off S1x1.size inb).emb (Shape.Idx.first (numel1_S1x1.symm ▸ Nat.one_pos)))

/-- The corners' words of the table `x0`. -/
def words (i : grid0.Coords) (x0 : Vec F S4x512 .i32) (hx : ∀ j, BitVec.toNat (x0 j) < 256) : Words :=
  chase i (word x0) (fun _ _ => chk1 i (hx _)) (fun _ _ => chk2 i (hx _)) (fun _ _ => chk3 i (hx _))
    (fun _ _ => chk4 i (hx _)) (fun _ _ => chk5 i (hx _)) (fun _ _ => chk6 i (hx _))

/-- The row of coordinates of the block `x1`. -/
def coords (x1 : Vec F S1x8x512 .f32) : Row F :=
  shapeCast S1x512 (View.ld x1 (Rect.unit (s := S1x8x512) ![0, 0, 0] S1x1x512.size inb_S1x8x512_S1x1x512_0_0_0)) shapeCasts_S1x1x512_S1x512

set_option sl_exec.dischHeartbeats 200000 in
set_option maxHeartbeats 4000000 in
/-- The body on any staging buffers: from a table of hashes it runs, leaves the table and the coordinates, and stores the
    picture of the grid point. -/
theorem kernelRun (c : Dev nD) (i : grid0.Coords) (arg1 : Memref sig .tc .smem S4x512 .i32) (harg1 : arg1.IsWhole)
    (arg2 : Memref sig .tc .vmem S1x8x512 .f32) (harg2 : arg2.IsWhole) (arg3 : Memref sig .tc .vmem S1x512x512 .f32) (harg3 : arg3.IsWhole)
    (x0 : Vec F S4x512 .i32) (x1 : Vec F S1x8x512 .f32) (hx : ∀ j, BitVec.toNat (x0 j) < 256) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ owns (c : Thread nD τ) arg3 fullShare (picture i (words i x0 hx) (coords x1))) -∗ K ⟨⟩))
          ⊢ wp frame (wpE (defs₀ (F := F)) Variants.none c none) E (cc0__noise_kernel i arg1 harg1 arg2 harg2 arg3 harg3) K := by
    intro E K
    simp only [cc0__noise_kernel_eq_skeleton]; unfold cc0__noise_kernel_skel
    simp only [k0_part27_eq_skeleton]
    unfold owns
    iintro ⟨⟨%f0, %hf0, H0⟩, ⟨%f1, %hf1, H1⟩, ⟨%d2, %f2, -, H2⟩, Hk⟩
    obtain rfl := harg1.eq_unread hf0; obtain rfl := harg2.eq_unread hf1
    have hw : ∀ (r : Rect S4x512) (j : r.shape.Idx), BitVec.toNat (View.readAt (Elt F) arg1.view r.toLoadRect (harg1.unread x0) j) < 256 := by
      intro r j
      rw [View.readAt_eq_ld, Memref.IsWhole.read_unread]
      exact hx _
    sl_exec (disch := (first | with_reducible refine chk1 _ ?_ | with_reducible refine chk2 _ ?_ | with_reducible refine chk3 _ ?_ | with_reducible refine chk4 _ ?_ | with_reducible refine chk5 _ ?_ | with_reducible refine chk6 _ ?_) <;> exact hw _ _)
    sl_step
    iapply Hk
    isplitl [H0]
    · iexists _; isplitr; · ipureintro; exact harg1.read_unread _
      iexact H0
    isplitl [H1]
    · iexists _; isplitr; · ipureintro; exact harg2.read_unread _
      iexact H1
    iexists _; isplitr; swap; · iexact H2
    ipureintro
    have hc : words i x0 hx = chase i (fun off inb => View.readAt (Elt F) arg1.view (Rect.unit (s := S4x512) off S1x1.size inb).toLoadRect (harg1.unread x0)
        (Shape.Idx.first (numel1_S1x1.symm ▸ Nat.one_pos)))
        (fun _ _ => chk1 i (hw _ _)) (fun _ _ => chk2 i (hw _ _)) (fun _ _ => chk3 i (hw _ _))
        (fun _ _ => chk4 i (hw _ _)) (fun _ _ => chk5 i (hw _ _)) (fun _ _ => chk6 i (hw _ _)) := by
      unfold words
      congr 1
      funext off inb
      rw [View.readAt_eq_ld, Memref.IsWhole.read_unread]
      rfl
    have hr : coords x1 = shapeCast S1x512 (View.readAt (Elt F) arg2.view (Rect.unit (s := S1x8x512) ![0, 0, 0] S1x1x512.size inb_S1x8x512_S1x1x512_0_0_0).toLoadRect (harg2.unread x1)) shapeCasts_S1x1x512_S1x512 := by
      rw [View.readAt_eq_ld, Memref.IsWhole.read_unread]
      rfl
    rw [hc, hr]
    refine (View.read_writes_full arg3.view f2 inb_S1x512x512_S1x512x512_0_0_0 _ []).trans ?_
    rfl

end Cert.KernelIdeal.Hand

end
-- ==== Proof.Run.lean ====
/- The run of the idealized kernel: the proof data of its one pipeline with the stored block named at every grid
   point, the body's obligation, and the run of the whole program from any memory whose table holds hashes. -/
module

public import proofs.«01_k».proof.Proof.Body
public import proofs.«01_k».proof.Proof.Gen.KernelIdeal.Frame
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Every entry of the table, on every device, is a hash: a word below 256. -/
def Hashes : Prop := ∀ (c : Dev nD) (j : S4x512.Idx), BitVec.toNat ((m ((c : Thread nD τ).loc main_arg3) : Vec F S4x512 .i32) j) < 256

variable (hp : Hashes m)

/-- The table as a grid point finds it holds hashes. -/
theorem table_lt (hp : Hashes m) (c : Dev nD) (t : Fin cfg0.N) : ∀ j : S4x512.Idx, BitVec.toNat ((iblk m c 0 t : Vec F S4x512 .i32) j) < 256 :=
  fun j => hp c _

/-- The block stored at a grid point: the picture of the point's row of coordinates. -/
def stored (hp : Hashes m) (c : Dev nD) (t : Fin cfg0.N) : Vec F S1x512x512 .f32 :=
  picture (grid0.coords t) (words (grid0.coords t) (iblk m c 0 t) (table_lt m hp c t)) (coords (iblk m c 1 t))

/-- The pipeline's proof data on core `c`: the table and the coordinates stay, the output block is `stored`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => stored m hp c t
  Φ _ := Pipeline.ΦA spec0 c
  q _ := fullShare
  owed _ := 0

theorem A_eq (c : Dev nD) (w : Fin cfg0.W) : (dats m hp 0 c).A w = V m c (Pipeline.arrRef spec0 w) := by dsimp only [dats]

theorem after0_0 (c : Dev nD) (t : Fin cfg0.N) : (dats m hp 0 c).after 0 t = iblk m c 0 t := by dsimp only [dats]
theorem after0_1 (c : Dev nD) (t : Fin cfg0.N) : (dats m hp 0 c).after 1 t = iblk m c 1 t := by dsimp only [dats]
theorem after0_2 (c : Dev nD) (t : Fin cfg0.N) : (dats m hp 0 c).after 2 t = stored m hp c t := by dsimp only [dats]

theorem before0_0 (c : Dev nD) (t : Fin cfg0.N) (d) : (dats m hp 0 c).before 0 t d = iblk m c 0 t :=
  before0_0_of m (dats m hp 0 c) (A_eq m hp c 0) (after0_0 m hp c) t d
theorem before0_1 (c : Dev nD) (t : Fin cfg0.N) (d) : (dats m hp 0 c).before 1 t d = iblk m c 1 t :=
  before0_1_of m (dats m hp 0 c) (A_eq m hp c 1) (after0_1 m hp c) t d

/-- What the body is run from at point `t`. -/
def bodyPre (c : Dev nD) (t : Fin cfg0.N) : sProp 𝕄 :=
  iprop((dats m hp 0 c).Φ t.castSucc ∗ (dats m hp 0 c).owesAt () t.castSucc
    ∗ (∃ d, owns (c : Thread nD τ) (st0_0 t) fullShare ((dats m hp 0 c).before 0 t d))
    ∗ (∃ d, owns (c : Thread nD τ) (st0_1 t) fullShare ((dats m hp 0 c).before 1 t d))
    ∗ (∃ d, owns (c : Thread nD τ) (st0_2 t) fullShare ((dats m hp 0 c).before 2 t d)))

/-- What the body leaves at point `t`. -/
def bodyPost (c : Dev nD) (t : Fin cfg0.N) : sProp 𝕄 :=
  iprop((dats m hp 0 c).Φ t.succ ∗ (dats m hp 0 c).owesAt () t.succ
    ∗ owns (c : Thread nD τ) (st0_0 t) fullShare ((dats m hp 0 c).after 0 t)
    ∗ owns (c : Thread nD τ) (st0_1 t) fullShare ((dats m hp 0 c).after 1 t)
    ∗ owns (c : Thread nD τ) (st0_2 t) fullShare ((dats m hp 0 c).after 2 t))

/-- The body at any grid point, from the point's blocks. -/
theorem sound_body (c : Dev nD) (t : Fin cfg0.N) :
    bodyPre m hp c t ⊢ wp frame (wpE (defs₀ (F := F)) Variants.none c none) Set.univ (bodyAt0 t) (fun _ => bodyPost m hp c t) := by
  unfold bodyPre bodyPost bodyAt0
  simp only [before0_0, before0_1]
  rw [show (dats m hp 0 c).Φ t.succ = (dats m hp 0 c).Φ t.castSucc from rfl,
    show (dats m hp 0 c).owesAt () t.succ = (dats m hp 0 c).owesAt () t.castSucc from rfl,
    after0_0, after0_1, after0_2]
  unfold stored
  iintro ⟨HΦ, Ho, ⟨%d0, H0⟩, ⟨%d1, H1⟩, ⟨%d2, H2⟩⟩
  iapply ((kernelRun c (grid0.coords t) _ _ _ _ _ _ (iblk m c 0 t) (iblk m c 1 t) (table_lt m hp c t)) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row (t : Fin cfg0.N) :
    defs₀ (F := F) .tc cfg0.body (cfg0.bodyArgs t (cfg0.slots t)) = bodyAt0 t := by
  unfold defs₀; rw [Defs.onTc_tc]

/-- The body's obligation at every grid point. -/
theorem body_obligation (c : Dev nD) : BodyObligation (dats (F := F) m hp 0 c) (defs₀ (F := F)) Variants.none () Set.univ := fun t => by
  rw [bigSep_W0, bigSep_W0, defs₀_row]
  exact triple_restated (sound_body m hp c t) rfl .rfl fun _ => .rfl

set_option backward.isDefEq.respectTransparency.types false in
set_option maxHeartbeats 800000 in
/-- The run of the whole program: every array of the pipeline ends as its blocks were written, every other buffer as
    the host lines after the region leave it, and every semaphore counter is zero. -/
theorem run_main_quiescent : θ_run defs (onTc (τ := τ) (main (F := F))) (s₀ m ρ)
    (fun r => Pipeline.FramePost cfgs (dats m hp) 0 (Pipeline.afterTail₀ cfgs (dats m hp) 0 (V0 m) [hostOps1]) r ∧ r.2.sem = fun _ => 0) :=
  Pipeline.θ_run_frame_around (Q' := _) cfgs (dats m hp) (0 : Fin 1) launch0 defs₀ Variants.none m ρ main
    (hbody := fun c => (body_obligation m hp c).loose) (hshare := fun c => (dats m hp 0 c).share_full fun _ => rfl)
    (howed := fun _ _ => rfl) (V₀ := V0 m) (opss := [hostOps1]) (hsub := sfx_sub) (hfresh := sfx_fresh) (hkeep := sfx_keeps)
    (hmain := hmain m Variants.none) (hA := A_eq m hp) (hΦ := fun _ _ => rfl)

/-- The run without the counters. -/
theorem run_main : θ_run defs (onTc (τ := τ) (main (F := F))) (s₀ m ρ)
    (Pipeline.FramePost cfgs (dats m hp) 0 (Pipeline.afterTail₀ cfgs (dats m hp) 0 (V0 m) [hostOps1])) :=
  (θ_run defs _ _).mono (fun _ h => h.1) (run_main_quiescent m ρ hp)

include hp in
/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m hp) (A_eq m hp) (run_main m ρ hp)

include hp in
/-- The frame: the argument arrays end unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hp) ((θ_run defs _ _).mono (fun _ h => h.2) (run_main_quiescent m ρ hp))

end Cert.KernelIdeal.Hand

end
-- ==== Proof.KernelFrame.lean ====
/- The frame of the kernel: from any memory whose table holds hashes the whole program runs, and its argument arrays
   end unchanged. What it stores is not named: the output window is forgotten. -/
module

public import proofs.«01_k».proof.Proof.KernelChecks
public import proofs.«01_k».proof.Proof.Gen.Kernel.Skeleton
public import proofs.«01_k».proof.Proof.Gen.Kernel.Frame
public import Idealize.ShloMosaic.Lib.VecWindow
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option sl_exec.dischHeartbeats 200000 in
set_option maxHeartbeats 4000000 in
/-- The body on any staging buffers: from a table of hashes it runs, leaves the table and the coordinates, and stores some block. -/
theorem kernelRun (c : Dev nD) (i : grid0.Coords) (arg1 : Memref sig .tc .smem S4x512 .i32) (harg1 : arg1.IsWhole)
    (arg2 : Memref sig .tc .vmem S1x8x512 .f32) (harg2 : arg2.IsWhole) (arg3 : Memref sig .tc .vmem S1x512x512 .f32) (harg3 : arg3.IsWhole)
    (x0 : Vec F S4x512 .i32) (x1 : Vec F S1x8x512 .f32) (hx : ∀ j, BitVec.toNat (x0 j) < 256) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ d, owns (c : Thread nD τ) arg3 fullShare d)) -∗ K ⟨⟩))
          ⊢ wp frame (wpE (defs₀ (F := F)) Variants.none c none) E (cc0__noise_kernel i arg1 harg1 arg2 harg2 arg3 harg3) K := by
    intro E K
    simp only [cc0__noise_kernel_eq_skeleton]; unfold cc0__noise_kernel_skel
    simp only [k0_part27_eq_skeleton]
    unfold owns
    iintro ⟨⟨%f0, %hf0, H0⟩, ⟨%f1, %hf1, H1⟩, ⟨%d2, %f2, -, H2⟩, Hk⟩
    obtain rfl := harg1.eq_unread hf0; obtain rfl := harg2.eq_unread hf1
    have hw : ∀ (r : Rect S4x512) (j : r.shape.Idx), BitVec.toNat (View.readAt (Elt F) arg1.view r.toLoadRect (harg1.unread x0) j) < 256 := by
      intro r j
      rw [View.readAt_eq_ld, Memref.IsWhole.read_unread]
      exact hx _
    sl_exec (disch := (first | with_reducible refine chk1 _ ?_ | with_reducible refine chk2 _ ?_ | with_reducible refine chk3 _ ?_ | with_reducible refine chk4 _ ?_ | with_reducible refine chk5 _ ?_ | with_reducible refine chk6 _ ?_) <;> exact hw _ _)
    sl_step
    iapply Hk
    isplitl [H0]
    · iexists _; isplitr; · ipureintro; exact harg1.read_unread _
      iexact H0
    isplitl [H1]
    · iexists _; isplitr; · ipureintro; exact harg2.read_unread _
      iexact H1
    iexists _, _; isplitr; swap; · iexact H2
    ipureintro; rfl

variable (m : (ℓ : Loc nD τ sig) → Buf (Elt F) ℓ) (ρ : Dev nD → PrngReg)

/-- Every entry of the table, on every device, is a hash: a word below 256. -/
def Hashes : Prop := ∀ (c : Dev nD) (j : S4x512.Idx), BitVec.toNat ((m ((c : Thread nD τ).loc main_arg3) : Vec F S4x512 .i32) j) < 256

variable (hp : Hashes m)

/-- The table as a grid point finds it holds hashes. -/
theorem table_lt (hp : Hashes m) (c : Dev nD) (t : Fin cfg0.N) : ∀ j : S4x512.Idx, BitVec.toNat ((iblk m c 0 t : Vec F S4x512 .i32) j) < 256 :=
  fun j => hp c _

/-- The output window is forgotten: nothing is said of what it holds. -/
def forgets0 : Fin 3 → Bool := fun w => w.val == 2

/-- The pipeline's proof data on core `c`: the table and the coordinates stay, the output block is not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is run from at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare d))

/-- What the body leaves at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare d))

include hp in
/-- The body at any grid point, from the point's blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩, ⟨%d2, H2⟩⟩
  iapply ((kernelRun c (grid0.coords t) _ _ _ _ _ _ (iblk m c 0 t) (iblk m c 1 t) (table_lt m hp c t)) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row (t : Fin cfg0.N) :
    defs₀ (F := F) .tc cfg0.body (cfg0.bodyArgs t (cfg0.slots t)) = bodyAt0 t := by
  unfold defs₀; rw [Defs.onTc_tc]

include hp in
/-- The body's obligation at every grid point. -/
theorem body_obligation (c : Dev nD) : BodyObligation (dats (F := F) m 0 c) (defs₀ (F := F)) Variants.none () Set.univ forgets0 := fun t => by
  rw [bigSep_W0, bigSep_W0, defs₀_row]
  exact triple_restated (sound_body m hp c t) rfl .rfl fun _ => .rfl

/-- The buffers the host lines after the region write. -/
def T0 : Finset (Ref sig .tc) := {main_call0_v1, main_v0}

/-- They write no other. -/
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  simp only [hostOps1, List.mem_cons, List.mem_nil_iff, or_false] at hop
  rcases hop with rfl | rfl
  all_goals
    intro b hb
    simp only [StableHlo.unary_writes, Finset.mem_singleton] at hb
    cases Proc.devRef_injective _ hb
    decide

include hp in
set_option backward.isDefEq.respectTransparency.types false in
set_option maxHeartbeats 800000 in
/-- The run of the whole program: the input arrays of the pipeline and every buffer the host lines do not write end
    unchanged, and every semaphore counter is zero. -/
theorem run_main_quiescent : θ_run defs (onTc (τ := τ) (main (F := F))) (s₀ m ρ)
    (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m hp c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

include hp in
/-- The run without the counters. -/
theorem run_main : θ_run defs (onTc (τ := τ) (main (F := F))) (s₀ m ρ)
    (Pipeline.RDat.FramePostR (cfgs 0) (fun c => (dats m 0 c).toRForget forgets0) T0 (V m)) :=
  (θ_run defs _ _).mono (fun _ h => h.1) (run_main_quiescent m ρ hp)

include hp in
/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r (h : Pipeline.RDat.FramePostR (cfgs 0) (fun c => (dats m 0 c).toRForget forgets0) T0 (V m) r) c => ⟨(Pipeline.RDat.FramePostR.arr_in h c 1 rfl).trans ((A_eq m c 1).trans (V_main_arg0 m c)),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      (Pipeline.RDat.FramePostR.arr_in h c 0 rfl).trans ((A_eq m c 0).trans (V_main_arg3 m c))⟩) (run_main m ρ hp)

include hp in
/-- The frame: the argument arrays end unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hp) ((θ_run defs _ _).mono (fun _ h => h.2) (run_main_quiescent m ρ hp))

end Cert.Kernel.Hand

end
-- ==== Proof.Reals.lean ====
/- The kernel's arithmetic at the ideal instance, on finite values: each definition of `Noise` is the coercion of a real
   function, and the product of the two stacks of rows is the sum of the octaves' noise. -/
module

public import proofs.«01_k».proof.Proof.Noise
public import Idealize.ShloMosaic.Lib.Pointwise

@[expose] public section

set_option maxRecDepth 16384

noncomputable section

namespace Cert.KernelIdeal.Hand

open Idealize.ShloMosaic Cert.KernelIdeal

/-! ## Literals -/

theorem lit_zero : (lit 0x00000000#32 : Ideal .f32) = ((0 : ℝ) : EReal) := by
  simp [lit, Scalar.ofBits, Ideal.ofBits, Ideal.ieee, -EReal.coe_mul]
theorem lit_one : (lit 0x3F800000#32 : Ideal .f32) = ((1 : ℝ) : EReal) := by
  show Ideal.ofBits .f32 _ = _
  simp [Ideal.ofBits, Ideal.ieee, -EReal.coe_mul]; norm_num
theorem lit_neg_one : (lit 0xBF800000#32 : Ideal .f32) = ((-1 : ℝ) : EReal) := by
  show Ideal.ofBits .f32 _ = _
  simp [Ideal.ofBits, Ideal.ieee, -EReal.coe_mul]; norm_num
theorem lit_six : (lit 0x40C00000#32 : Ideal .f32) = ((6 : ℝ) : EReal) := by
  show Ideal.ofBits .f32 _ = _
  simp [Ideal.ofBits, Ideal.ieee, -EReal.coe_mul]; norm_num
theorem lit_fifteen : (lit 0x41700000#32 : Ideal .f32) = ((15 : ℝ) : EReal) := by
  show Ideal.ofBits .f32 _ = _
  simp [Ideal.ofBits, Ideal.ieee, -EReal.coe_mul]; norm_num
theorem lit_ten : (lit 0x41200000#32 : Ideal .f32) = ((10 : ℝ) : EReal) := by
  show Ideal.ofBits .f32 _ = _
  simp [Ideal.ofBits, Ideal.ieee, -EReal.coe_mul]; norm_num
theorem lit_lanes : (lit 0x44000000#32 : Ideal .f32) = ((512 : ℝ) : EReal) := by
  show Ideal.ofBits .f32 _ = _
  simp [Ideal.ofBits, Ideal.ieee, -EReal.coe_mul]; norm_num

/-! ## A row of reals -/

/-- The row `t` holds the finite values `f`. -/
def IsRow (t : Row Ideal) (f : Fin 512 → ℝ) : Prop := ∀ k, t (ix2 0 k) = ((f k : ℝ) : EReal)

theorem isRow_spread (a : ℝ) : IsRow (spread ((a : EReal) : Ideal .f32)) fun _ => a := fun k => rfl

section
variable {s t : Row Ideal} {f g : Fin 512 → ℝ}

theorem IsRow.add (hs : IsRow s f) (ht : IsRow t g) : IsRow (addf s t) fun k => f k + g k := fun k => by
  show (s (ix2 0 k) + t (ix2 0 k) : EReal) = _
  rw [hs, ht, EReal.coe_add]
theorem IsRow.sub (hs : IsRow s f) (ht : IsRow t g) : IsRow (subf s t) fun k => f k - g k := fun k => by
  show (s (ix2 0 k) - t (ix2 0 k) : EReal) = _
  rw [hs, ht, EReal.coe_sub]
theorem IsRow.mul (hs : IsRow s f) (ht : IsRow t g) : IsRow (mulf s t) fun k => f k * g k := fun k => by
  show (s (ix2 0 k) * t (ix2 0 k) : EReal) = _
  rw [hs, ht, EReal.coe_mul]
theorem IsRow.congr (hs : IsRow s f) (h : ∀ k, f k = g k) : IsRow s g := fun k => by rw [hs, h]

end

/-! ## The gradient -/

/-- The dot product of the gradient of the hash word `h` with a displacement. -/
def gradR (h : BitVec 32) (x y z : ℝ) : ℝ :=
  (if Scalar.cmpi .eq (Scalar.andi (Scalar.andi h 15#32) 1#32) 0#32 = 1#1 then (if firstX h = 1#1 then x else y)
    else -(if firstX h = 1#1 then x else y))
  + (if Scalar.cmpi .eq (Scalar.andi (Scalar.andi h 15#32) 2#32) 0#32 = 1#1
      then (if secondY h = 1#1 then y else if secondX h = 1#1 then x else z)
      else -(if secondY h = 1#1 then y else if secondX h = 1#1 then x else z))

theorem bit_cases (b : BitVec 1) : b = 0#1 ∨ b = 1#1 := by revert b; decide

theorem sign1_eq (h : BitVec 32) : (sign1 h : Ideal .f32)
    = (((if Scalar.cmpi .eq (Scalar.andi (Scalar.andi h 15#32) 1#32) 0#32 = 1#1 then 1 else -1 : ℝ)) : EReal) := by
  unfold sign1 Scalar.select
  rw [lit_one, lit_neg_one, apply_ite (fun r : ℝ => (r : EReal))]
  rfl

theorem sign2_eq (h : BitVec 32) : (sign2 h : Ideal .f32)
    = (((if Scalar.cmpi .eq (Scalar.andi (Scalar.andi h 15#32) 2#32) 0#32 = 1#1 then 1 else -1 : ℝ)) : EReal) := by
  unfold sign2 Scalar.select
  rw [lit_one, lit_neg_one, apply_ite (fun r : ℝ => (r : EReal))]
  rfl

theorem gradX_eq (h : BitVec 32) : (gradX h : Ideal .f32) = ((gradR h 1 0 0 : ℝ) : EReal) := by
  unfold gradX gradR
  rw [sign1_eq, sign2_eq, lit_zero]
  generalize Scalar.cmpi .eq (Scalar.andi (Scalar.andi h 15#32) 1#32) 0#32 = b1
  generalize Scalar.cmpi .eq (Scalar.andi (Scalar.andi h 15#32) 2#32) 0#32 = b2
  rcases bit_cases b1 with rfl | rfl <;> rcases bit_cases b2 with rfl | rfl <;>
  rcases bit_cases (firstX h) with h1 | h1 <;> rcases bit_cases (secondY h) with h2 | h2 <;> rcases bit_cases (secondX h) with h3 | h3 <;>
    simp [h1, h2, h3, Scalar.select, Scalar.andi, Scalar.xori, Ideal.scalar_addf_def, IntOp.andi, IntOp.xori, ← EReal.coe_add, -EReal.coe_one, -EReal.coe_zero, -EReal.coe_neg]

theorem gradY_eq (h : BitVec 32) : (gradY h : Ideal .f32) = ((gradR h 0 1 0 : ℝ) : EReal) := by
  unfold gradY gradR
  rw [sign1_eq, sign2_eq, lit_zero]
  generalize Scalar.cmpi .eq (Scalar.andi (Scalar.andi h 15#32) 1#32) 0#32 = b1
  generalize Scalar.cmpi .eq (Scalar.andi (Scalar.andi h 15#32) 2#32) 0#32 = b2
  rcases bit_cases b1 with rfl | rfl <;> rcases bit_cases b2 with rfl | rfl <;>
  rcases bit_cases (firstX h) with h1 | h1 <;> rcases bit_cases (secondY h) with h2 | h2 <;> rcases bit_cases (secondX h) with h3 | h3 <;>
    simp [h1, h2, h3, Scalar.select, Scalar.andi, Scalar.xori, Ideal.scalar_addf_def, IntOp.andi, IntOp.xori, ← EReal.coe_add, -EReal.coe_one, -EReal.coe_zero, -EReal.coe_neg]

theorem gradZ_eq (h : BitVec 32) : (gradZ h : Ideal .f32) = ((gradR h 0 0 1 : ℝ) : EReal) := by
  unfold gradZ gradR
  rw [sign2_eq, lit_zero]
  generalize Scalar.cmpi .eq (Scalar.andi (Scalar.andi h 15#32) 1#32) 0#32 = b1
  generalize Scalar.cmpi .eq (Scalar.andi (Scalar.andi h 15#32) 2#32) 0#32 = b2
  rcases bit_cases b1 with rfl | rfl <;> rcases bit_cases b2 with rfl | rfl <;>
  rcases bit_cases (firstX h) with h1 | h1 <;> rcases bit_cases (secondY h) with h2 | h2 <;> rcases bit_cases (secondX h) with h3 | h3 <;>
    simp [h1, h2, h3, Scalar.select, Scalar.andi, Scalar.xori, Ideal.scalar_addf_def, IntOp.andi, IntOp.xori, ← EReal.coe_add, -EReal.coe_one, -EReal.coe_zero, -EReal.coe_neg]

/-- The dot product is the three coefficients' combination. -/
theorem gradR_linear (h : BitVec 32) (x y z : ℝ) : gradR h x y z = gradR h 1 0 0 * x + gradR h 0 1 0 * y + gradR h 0 0 1 * z := by
  unfold gradR; split_ifs <;> ring

/-! ## The curves -/

/-- The fade curve. -/
def fadeR (t : ℝ) : ℝ := t * t * t * (t * (6 * t - 15) + 10)

/-- From `a` to `b` along `t`. -/
def mixR (t a b : ℝ) : ℝ := a + t * (b - a)

/-- The mean of a row. -/
def meanR (f : Fin 512 → ℝ) : ℝ := (∑ k, f k) * (1 / 512)

variable {t x y a b : Row Ideal} {f fx fy fa fb : Fin 512 → ℝ}

theorem IsRow.fade (ht : IsRow t f) : IsRow (Hand.fade t) fun k => fadeR (f k) := by
  unfold Hand.fade
  rw [lit_six, lit_fifteen, lit_ten]
  exact ((ht.mul ht).mul ht).mul ((ht.mul (((isRow_spread 6).mul ht).sub (isRow_spread 15))).add (isRow_spread 10))

theorem fadeZ_eq (z : ℝ) : (fadeZ ((z : EReal) : Ideal .f32) : Ideal .f32) = ((fadeR z : ℝ) : EReal) := by
  unfold fadeZ fadeR
  rw [lit_six, lit_fifteen, lit_ten]
  simp only [Ideal.scalar_mulf_def, Ideal.scalar_addf_def, Ideal.scalar_subf_def, EReal.coe_mul, EReal.coe_add, EReal.coe_sub]

theorem IsRow.mix (ht : IsRow t f) (ha : IsRow a fa) (hb : IsRow b fb) : IsRow (Hand.mix t a b) fun k => mixR (f k) (fa k) (fb k) :=
  ha.add (ht.mul (hb.sub ha))

theorem coe_sum_lanes (f : Fin 512 → ℝ) : (∑ k, ((f k : ℝ) : EReal)) = ((∑ k, f k : ℝ) : EReal) := by
  induction (Finset.univ : Finset (Fin 512)) using Finset.induction_on with
  | empty => simp
  | insert a s ha ih => rw [Finset.sum_insert ha, Finset.sum_insert ha, ih, EReal.coe_add]

theorem IsRow.mean (ht : IsRow t f) : (Hand.mean t : Ideal .f32) = ((meanR f : ℝ) : EReal) := by
  unfold Hand.mean
  rw [lit_lanes]
  pointwise
  rw [Finset.univ_unique, Finset.sum_singleton, Finset.sum_congr rfl fun k _ => ht k, coe_sum_lanes, Ideal.div_coe (by norm_num), ← EReal.coe_mul]
  rfl

theorem IsRow.centred (ht : IsRow t f) : IsRow (Hand.centred t) fun k => f k - meanR f := by
  unfold Hand.centred
  rw [ht.mean]
  exact ht.sub (isRow_spread _)

/-! ## One octave -/

def alphaR (h : BitVec 32) (dx dz x z : ℝ) : ℝ := gradR h 1 0 0 * x + (gradR h 1 0 0 * dx + gradR h 0 0 1 * (z + dz))
def betaR (h : BitVec 32) (dy y : ℝ) : ℝ := gradR h 0 1 0 * y + gradR h 0 1 0 * dy
def alphasR (h h' : BitVec 32) (dz x z : ℝ) : ℝ := mixR (fadeR x) (alphaR h 0 dz x z) (alphaR h' (-1) dz x z)

def colPartR (w : Words) (x z : ℝ) : ℝ := mixR (fadeR z) (alphasR w.h0 w.h1 0 x z) (alphasR w.h4 w.h5 (-1) x z)
def colSlopeR (w : Words) (x z : ℝ) : ℝ :=
  mixR (fadeR z) (alphasR w.h2 w.h3 0 x z - alphasR w.h0 w.h1 0 x z) (alphasR w.h6 w.h7 (-1) x z - alphasR w.h4 w.h5 (-1) x z)
def rowPartR (w : Words) (y z : ℝ) : ℝ :=
  mixR (fadeR z) (mixR (fadeR y) (betaR w.h0 0 y) (betaR w.h2 (-1) y)) (mixR (fadeR y) (betaR w.h4 0 y) (betaR w.h6 (-1) y))
def rowSlopeR (w : Words) (y z : ℝ) : ℝ :=
  mixR (fadeR z) (mixR (fadeR y) (betaR w.h1 0 y - betaR w.h0 0 y) (betaR w.h3 (-1) y - betaR w.h2 (-1) y))
    (mixR (fadeR y) (betaR w.h5 0 y - betaR w.h4 0 y) (betaR w.h7 (-1) y - betaR w.h6 (-1) y))

/-- The noise in the cell with the corner words `w`: the eight corners' gradients, interpolated. -/
def noiseR (w : Words) (x y z : ℝ) : ℝ :=
  mixR (fadeR z)
    (mixR (fadeR y) (mixR (fadeR x) (gradR w.h0 x y z) (gradR w.h1 (x - 1) y z))
      (mixR (fadeR x) (gradR w.h2 x (y - 1) z) (gradR w.h3 (x - 1) (y - 1) z)))
    (mixR (fadeR y) (mixR (fadeR x) (gradR w.h4 x y (z - 1)) (gradR w.h5 (x - 1) y (z - 1)))
      (mixR (fadeR x) (gradR w.h6 x (y - 1) (z - 1)) (gradR w.h7 (x - 1) (y - 1) (z - 1))))

/-- The noise is its four parts: one along x, one along y, and two products of a fade and a slope. -/
theorem noiseR_parts (w : Words) (x y z : ℝ) :
    noiseR w x y z = colPartR w x z + rowPartR w y z + fadeR y * colSlopeR w x z + rowSlopeR w y z * fadeR x := by
  unfold noiseR colPartR rowPartR colSlopeR rowSlopeR alphasR alphaR betaR mixR
  generalize fadeR x = u
  generalize fadeR y = v
  generalize fadeR z = s
  rw [gradR_linear w.h0 x, gradR_linear w.h1 (x - 1), gradR_linear w.h2 x, gradR_linear w.h3 (x - 1),
    gradR_linear w.h4 x, gradR_linear w.h5 (x - 1), gradR_linear w.h6 x, gradR_linear w.h7 (x - 1)]
  ring

theorem IsRow.alpha {h : BitVec 32} {dx dz z : ℝ} (hx : IsRow x fx) :
    IsRow (Hand.alpha h (dx : EReal) (dz : EReal) x (z : EReal)) fun k => alphaR h dx dz (fx k) z := by
  unfold Hand.alpha
  rw [gradX_eq, gradZ_eq]
  simp only [Ideal.scalar_mulf_def, Ideal.scalar_addf_def, ← EReal.coe_mul, ← EReal.coe_add]
  exact ((isRow_spread _).mul hx).add (isRow_spread _)

theorem IsRow.beta {h : BitVec 32} {dy : ℝ} (hy : IsRow y fy) : IsRow (Hand.beta h (dy : EReal) y) fun k => betaR h dy (fy k) := by
  unfold Hand.beta
  rw [gradY_eq]
  simp only [Ideal.scalar_mulf_def, ← EReal.coe_mul]
  exact ((isRow_spread _).mul hy).add (isRow_spread _)

theorem IsRow.alphas {h h' : BitVec 32} {dz z : ℝ} (hx : IsRow x fx) :
    IsRow (Hand.alphas h h' (dz : EReal) x (z : EReal)) fun k => alphasR h h' dz (fx k) z := by
  unfold Hand.alphas near far
  rw [lit_zero, lit_neg_one]
  exact hx.fade.mix hx.alpha hx.alpha

theorem IsRow.colPart {w : Words} {z : ℝ} (hx : IsRow x fx) : IsRow (Hand.colPart w x (z : EReal)) fun k => colPartR w (fx k) z := by
  unfold Hand.colPart near far
  rw [lit_zero, lit_neg_one, fadeZ_eq]
  exact (isRow_spread _).mix hx.alphas hx.alphas

theorem IsRow.colSlope {w : Words} {z : ℝ} (hx : IsRow x fx) : IsRow (Hand.colSlope w x (z : EReal)) fun k => colSlopeR w (fx k) z := by
  unfold Hand.colSlope near far
  rw [lit_zero, lit_neg_one, fadeZ_eq]
  exact (isRow_spread _).mix (hx.alphas.sub hx.alphas) (hx.alphas.sub hx.alphas)

theorem IsRow.rowPart {w : Words} {z : ℝ} (hx : IsRow x fx) : IsRow (Hand.rowPart w x (z : EReal)) fun k => rowPartR w (fx k) z := by
  unfold Hand.rowPart near far
  rw [lit_zero, lit_neg_one, fadeZ_eq]
  exact (isRow_spread _).mix (hx.fade.mix hx.beta hx.beta) (hx.fade.mix hx.beta hx.beta)

theorem IsRow.rowSlope {w : Words} {z : ℝ} (hx : IsRow x fx) : IsRow (Hand.rowSlope w x (z : EReal)) fun k => rowSlopeR w (fx k) z := by
  unfold Hand.rowSlope near far
  rw [lit_zero, lit_neg_one, fadeZ_eq]
  exact (isRow_spread _).mix (hx.fade.mix (hx.beta.sub hx.beta) (hx.beta.sub hx.beta))
    (hx.fade.mix (hx.beta.sub hx.beta) (hx.beta.sub hx.beta))

/-- The rows of an octave, as real functions. -/
structure OctaveR where
  (fade col row colSlope rowSlope : Fin 512 → ℝ)

/-- What an octave amounts to at row `i` and column `j`. -/
def OctaveR.at (r : OctaveR) (i j : Fin 512) : ℝ := r.col j + r.row i + r.fade i * r.colSlope j + r.rowSlope i * r.fade j

/-- The octave `o` holds the finite rows `r`. -/
structure IsOctave (o : Octave Ideal) (r : OctaveR) : Prop where
  fade : IsRow o.fade r.fade
  col : IsRow o.col r.col
  row : IsRow o.row r.row
  colSlope : IsRow o.colSlope r.colSlope
  rowSlope : IsRow o.rowSlope r.rowSlope

/-- The octave at scale `s` and amplitude `a`, over the coordinates `f`. -/
def octaveR (w : Words) (f : Fin 512 → ℝ) (z s a : ℝ) : OctaveR where
  fade k := fadeR (f k * s)
  col k := a * colPartR w (f k * s) (z * s)
  row k := a * rowPartR w (f k * s) (z * s)
  colSlope k := a * colSlopeR w (f k * s) (z * s)
  rowSlope k := a * rowSlopeR w (f k * s) (z * s)

theorem isOctave (w : Words) (z s a : ℝ) (hx : IsRow x f) :
    IsOctave (octave w x (z : EReal) (s : EReal) (a : EReal)) (octaveR w f z s a) := by
  have hs := hx.mul (isRow_spread s)
  unfold octave
  rw [Ideal.scalar_mulf_def, ← EReal.coe_mul]
  exact ⟨hs.fade, (isRow_spread a).mul hs.colPart, (isRow_spread a).mul hs.rowPart, (isRow_spread a).mul hs.colSlope,
    (isRow_spread a).mul hs.rowSlope⟩

/-- An octave is its amplitude times the noise of the scaled coordinates. -/
theorem octaveR_at (w : Words) (f : Fin 512 → ℝ) (z s a : ℝ) (i j : Fin 512) :
    (octaveR w f z s a).at i j = a * noiseR w (f j * s) (f i * s) (z * s) := by
  rw [noiseR_parts]; unfold OctaveR.at octaveR; ring

/-! ## The sum of the octaves -/

/-- What an octave adds to the terms along x alone, -/
def OctaveR.toCol (r : OctaveR) (k : Fin 512) : ℝ :=
  r.col k + meanR r.fade * r.colSlope k + meanR r.rowSlope * (r.fade k - meanR r.fade)

/-- and to those along y alone. -/
def OctaveR.toRow (r : OctaveR) (k : Fin 512) : ℝ :=
  r.row k + meanR r.colSlope * (r.fade k - meanR r.fade) + meanR r.fade * r.rowSlope k

/-- With the products of the centred rows, that is the octave. -/
theorem OctaveR.centred_at (r : OctaveR) (i j : Fin 512) :
    r.toCol j + r.toRow i + (r.fade i - meanR r.fade) * (r.colSlope j - meanR r.colSlope)
      + (r.rowSlope i - meanR r.rowSlope) * (r.fade j - meanR r.fade) = r.at i j := by
  unfold OctaveR.toCol OctaveR.toRow OctaveR.at; ring

theorem Sums.add_isRow {t : Sums Ideal} {o : Octave Ideal} {c d : Fin 512 → ℝ} {r : OctaveR} (hc : IsRow t.col c) (hd : IsRow t.row d)
    (ho : IsOctave o r) : IsRow (t.add o).col (fun k => c k + r.toCol k) ∧ IsRow (t.add o).row (fun k => d k + r.toRow k) := by
  unfold Sums.add
  rw [ho.fade.mean, ho.rowSlope.mean, ho.colSlope.mean]
  exact ⟨(((hc.add ho.col).add ((isRow_spread _).mul ho.colSlope)).add ((isRow_spread _).mul ho.fade.centred)).congr fun k => by
      unfold OctaveR.toCol; ring,
    (((hd.add ho.row).add ((isRow_spread _).mul ho.fade.centred)).add ((isRow_spread _).mul ho.rowSlope)).congr fun k => by
      unfold OctaveR.toRow; ring⟩

theorem sums_isRow {o1 o2 o4 o8 : Octave Ideal} {r1 r2 r4 r8 : OctaveR} (h1 : IsOctave o1 r1) (h2 : IsOctave o2 r2)
    (h4 : IsOctave o4 r4) (h8 : IsOctave o8 r8) :
    IsRow (sums o1 o2 o4 o8).col (fun k => 0 + r1.toCol k + r2.toCol k + r4.toCol k + r8.toCol k)
      ∧ IsRow (sums o1 o2 o4 o8).row (fun k => 0 + r1.toRow k + r2.toRow k + r4.toRow k + r8.toRow k) := by
  have h0 : IsRow (spread (lit 0#32)) (fun _ => 0) := by rw [lit_zero]; exact isRow_spread 0
  obtain ⟨c1, d1⟩ := Sums.add_isRow (t := ⟨spread (lit 0#32), spread (lit 0#32)⟩) h0 h0 h1
  obtain ⟨c2, d2⟩ := Sums.add_isRow c1 d1 h2
  obtain ⟨c4, d4⟩ := Sums.add_isRow c2 d2 h4
  exact Sums.add_isRow c4 d4 h8

theorem coe_sum_ten (f : Fin 10 → ℝ) : ∑ k, ((f k : ℝ) : EReal) = ((∑ k, f k : ℝ) : EReal) := by
  simp only [Fin.sum_univ_succ, Fin.sum_univ_zero, EReal.coe_add, EReal.coe_zero]

/-- The product of the two stacks at row `i` and column `j` is the sum of the four octaves there. -/
theorem total_apply {o1 o2 o4 o8 : Octave Ideal} {r1 r2 r4 r8 : OctaveR} (h1 : IsOctave o1 r1) (h2 : IsOctave o2 r2)
    (h4 : IsOctave o4 r4) (h8 : IsOctave o8 r8) (i j : Fin 512) :
    total o1 o2 o4 o8 (ix2 i j) = ((r1.at i j + r2.at i j + r4.at i j + r8.at i j : ℝ) : EReal) := by
  obtain ⟨hc, hr⟩ := sums_isRow h1 h2 h4 h8
  unfold total
  rw [lit_one]
  generalize sums o1 o2 o4 o8 = t at hc hr
  pointwise
  refine (Finset.sum_congr rfl (g := fun k : Fin 10 =>
    (([1, 0 + r1.toRow i + r2.toRow i + r4.toRow i + r8.toRow i, r1.fade i - meanR r1.fade, r1.rowSlope i - meanR r1.rowSlope,
        r2.fade i - meanR r2.fade, r2.rowSlope i - meanR r2.rowSlope, r4.fade i - meanR r4.fade, r4.rowSlope i - meanR r4.rowSlope,
        r8.fade i - meanR r8.fade, r8.rowSlope i - meanR r8.rowSlope].getD k.val 0
      * [0 + r1.toCol j + r2.toCol j + r4.toCol j + r8.toCol j, 1, r1.colSlope j - meanR r1.colSlope, r1.fade j - meanR r1.fade,
        r2.colSlope j - meanR r2.colSlope, r2.fade j - meanR r2.fade, r4.colSlope j - meanR r4.colSlope, r4.fade j - meanR r4.fade,
        r8.colSlope j - meanR r8.colSlope, r8.fade j - meanR r8.fade].getD k.val 0 : ℝ) : EReal)) fun k _ => ?_).trans ?_
  · rw [EReal.coe_mul]
    fin_vals k with hk
    all_goals simp only [hk, Nat.reduceSub, Nat.reduceLT, ↓reduceDIte, List.getD_cons_zero, List.getD_cons_succ]
    · exact congrArg₂ _ (isRow_spread 1 _) (hc _)
    · exact congrArg₂ _ (hr _) (isRow_spread 1 _)
    · exact congrArg₂ _ (h1.fade.centred _) (h1.colSlope.centred _)
    · exact congrArg₂ _ (h1.rowSlope.centred _) (h1.fade.centred _)
    · exact congrArg₂ _ (h2.fade.centred _) (h2.colSlope.centred _)
    · exact congrArg₂ _ (h2.rowSlope.centred _) (h2.fade.centred _)
    · exact congrArg₂ _ (h4.fade.centred _) (h4.colSlope.centred _)
    · exact congrArg₂ _ (h4.rowSlope.centred _) (h4.fade.centred _)
    · exact congrArg₂ _ (h8.fade.centred _) (h8.colSlope.centred _)
    · exact congrArg₂ _ (h8.rowSlope.centred _) (h8.fade.centred _)
  · rw [coe_sum_ten]
    simp only [Fin.sum_univ_succ, Fin.sum_univ_zero, Fin.val_zero, Fin.val_succ, List.getD_cons_zero, List.getD_cons_succ, Nat.reduceAdd]
    rw [← r1.centred_at, ← r2.centred_at, ← r4.centred_at, ← r8.centred_at]
    congr 1
    ring

/-! ## The image -/

/-- A number clipped to the unit interval. -/
def clipE (r : ℝ) : EReal := min 1 (max 0 (r : EReal))

/-- The least clipped value of an image, -/
def leastE (t : Fin 512 → Fin 512 → ℝ) : EReal :=
  Finset.fold min (Ideal.ofBits .f32 0x7F800000#32) (fun k : Fin 512 × Fin 512 => clipE (t k.1 k.2)) Finset.univ

/-- the greatest, -/
def greatestE (t : Fin 512 → Fin 512 → ℝ) : EReal :=
  Finset.fold max (Ideal.ofBits .f32 0xFF800000#32) (fun k : Fin 512 × Fin 512 => clipE (t k.1 k.2)) Finset.univ

/-- and the clipped image stretched by the two. -/
def stretchE (t : Fin 512 → Fin 512 → ℝ) (i j : Fin 512) : EReal :=
  Ideal.div (clipE (t i j) - leastE t) (greatestE t - leastE t)

/-- The block the kernel stores, of an image of finite values. -/
theorem stretched_apply (n : FVec Ideal S512x512 .f32) (t : Fin 512 → Fin 512 → ℝ) (h : ∀ i j, n (ix2 i j) = ((t i j : ℝ) : EReal))
    (i j : Fin 512) : stretched (clipped n) (ix3 0 i j) = stretchE t i j := by
  unfold stretched least greatest clipped
  pointwise
  simp only [h]
  rfl

/-- The grid point's height. -/
theorem height_eq (i : grid0.Coords) : (height i : Ideal .f32) = (((i 0).val * (1 / 100) : ℝ) : EReal) := by
  unfold height
  rw [IdealRules.named_const.ideal_named_scalar _ _ _ _ rfl]
  have hn : (BitVec.ofNat 32 (i 0).val).toInt = (i 0).val := by
    have hlt : (i 0).val < 4 := (i 0).isLt
    rw [BitVec.toInt_eq_toNat_of_lt (by rw [BitVec.toNat_ofNat]; omega), BitVec.toNat_ofNat]
    omega
  show (((BitVec.ofNat 32 (i 0).val).toInt : ℝ) : EReal) * ((1 / 100 : ℝ) : EReal) = _
  rw [hn, ← EReal.coe_mul, Int.cast_natCast]

/-- The image at grid point `i` of a row of finite coordinates: at every octave the noise of the words, weighted by amplitude. -/
theorem picture_apply (c : grid0.Coords) (w : Words) {x : Row Ideal} {f : Fin 512 → ℝ} (hx : IsRow x f) (i j : Fin 512) :
    picture c w x (ix3 0 i j) = stretchE (fun i j =>
      8 / 15 * noiseR w (f j * (1 / 100)) (f i * (1 / 100)) ((c 0).val * (1 / 100) * (1 / 100))
      + 4 / 15 * noiseR w (f j * (2 / 100)) (f i * (2 / 100)) ((c 0).val * (1 / 100) * (2 / 100))
      + 2 / 15 * noiseR w (f j * (4 / 100)) (f i * (4 / 100)) ((c 0).val * (1 / 100) * (4 / 100))
      + 1 / 15 * noiseR w (f j * (8 / 100)) (f i * (8 / 100)) ((c 0).val * (1 / 100) * (8 / 100))) i j := by
  unfold picture
  rw [height_eq]
  rw [IdealRules.named_const.ideal_named_scalar κ "s1" _ _ rfl, IdealRules.named_const.ideal_named_scalar κ "s2" _ _ rfl, IdealRules.named_const.ideal_named_scalar κ "s4" _ _ rfl, IdealRules.named_const.ideal_named_scalar κ "s8" _ _ rfl,
    IdealRules.named_const.ideal_named_scalar κ "a1" _ _ rfl, IdealRules.named_const.ideal_named_scalar κ "a2" _ _ rfl, IdealRules.named_const.ideal_named_scalar κ "a4" _ _ rfl, IdealRules.named_const.ideal_named_scalar κ "a8" _ _ rfl]
  refine (stretched_apply _ _ (total_apply (isOctave w _ _ _ hx) (isOctave w _ _ _ hx) (isOctave w _ _ _ hx) (isOctave w _ _ _ hx)) i j).trans ?_
  simp only [octaveR_at]
  norm_num

end Cert.KernelIdeal.Hand

end
-- ==== Proof.Volume.lean ====
/- The reference's stages as functions of whole volumes, one element per image, octave, row and column: the ease curve,
   the interpolation, the dot product with a word's gradient, the cell of a coordinate and the lookup in the table; and
   each of them on finite values and known words. -/
module

public import proofs.«01_k».proof.Proof.Reals
public import proofs.«01_k».proof.ReferenceIdeal
public import Idealize.ShloMosaic.Lib.Pointwise

@[expose] public section

set_option maxRecDepth 16384

noncomputable section

namespace Cert.ReferenceIdeal.Hand

open Idealize.ShloMosaic Cert.ReferenceIdeal Facts₀ Facts
open Cert.KernelIdeal.Hand (lit lit_zero lit_one lit_six lit_fifteen lit_ten gradR fadeR mixR firstX secondX secondY Words noiseR bit_cases)

variable [Facts₀]

/-- One number per image, octave, row and column. -/
abbrev Vol : Type := FVec Ideal S4x4x512x512 .f32

/-- One word per image, octave, row and column. -/
abbrev IVol : Type := IVec S4x4x512x512 32

/-- The same number everywhere, -/
def all (b : BitVec 32) : Vol := broadcastInDim S4x4x512x512 ![] bcast_S_S4x4x512x512 (constant S_ .f32 b)

/-- and the same word. -/
def allI (b : BitVec 32) : IVol := broadcastInDim S4x4x512x512 ![] bcast_S_S4x4x512x512 (constantI S_ 32 b)

/-- `6 t⁵ − 15 t⁴ + 10 t³`. -/
def ease (t : Vol) : Vol :=
  addf (subf (mulf (all 0x40C00000#32) (mulf t (mulf (mulf t t) (mulf t t)))) (mulf (all 0x41700000#32) (mulf (mulf t t) (mulf t t))))
    (mulf (all 0x41200000#32) (mulf (mulf t t) t))

/-- From `a` to `b` along `t`. -/
def lerp (t a b : Vol) : Vol := addf a (mulf t (subf b a))

/-- Less one. -/
def back (t : Vol) : Vol := subf t (all 0x3F800000#32)

/-- The low four bits of a word. -/
def low (h : IVol) : IVol := andi h (allI 15#32)

/-- The gradient's first term, -/
def first (h : IVol) (x y : Vol) : Vol := select (cmpi .slt (low h) (allI 8#32)) x y

/-- its second, -/
def second (h : IVol) (x y z : Vol) : Vol :=
  select (cmpi .slt (low h) (allI 4#32)) y
    (select (ori (cmpi .eq (low h) (allI 12#32)) (cmpi .eq (low h) (allI 14#32))) x z)

/-- and the two with the signs that the lowest bits select, added. -/
def grad (h : IVol) (x y z : Vol) : Vol :=
  addf (select (cmpi .eq (andi (low h) (allI 1#32)) (allI 0#32)) (first h x y) (Host.negf (first h x y)))
    (select (cmpi .eq (andi (low h) (allI 2#32)) (allI 0#32)) (second h x y z) (Host.negf (second h x y z)))

/-- The fraction of a coordinate. -/
def frac (t : Vol) : Vol := subf t (Host.floor t)

/-- The number 255 as the remainder meets it. -/
def period : FVec Ideal S_ .f32 := sitofp .f32 (constantI S_ 32 255#32)

/-- The truncated remainder of a coordinate's floor by 255. -/
def rest (t : Vol) : Vol := Host.remf (Host.floor t) (broadcastInDim S4x4x512x512 ![] bcast_S_S4x4x512x512 period)

/-- The cell of a coordinate: the floored remainder of its floor by 255, as a word. -/
def cell (t : Vol) : IVol :=
  fptosi 32 (select
    (andi (cmpi .ne (cmpf .olt (rest t) (all 0#32))
        (broadcastInDim S4x4x512x512 ![] bcast_S_S4x4x512x512 (cmpf .olt period (constant S_ .f32 0#32))))
      (cmpf .une (rest t) (all 0#32)))
    (addf (rest t) (broadcastInDim S4x4x512x512 ![] bcast_S_S4x4x512x512 period)) (rest t))

/-- The entries of the images' tables at the places `n`, a negative place counted from the end. -/
def pick (p : IVec S4x512 32) (n : IVol) : IVol :=
  Host.gather gather_S4x512_S4x4x512x512x1_S4x4x512x512_n_1_0_0_1_4_11 p
    (broadcastInDim S4x4x512x512x1 ![0, 1, 2, 3] bcast_S4x4x512x512_S4x4x512x512x1_0_1_2_3
      (select (cmpi .slt n (allI 0#32)) (addi n (allI 512#32)) n))

/-! ## On finite values -/

/-- The volume `t` holds the finite values `f`. -/
def IsVol (t : Vol) (f : Fin 4 → Fin 4 → Fin 512 → Fin 512 → ℝ) : Prop := ∀ b o i j, t (ix4 b o i j) = ((f b o i j : ℝ) : EReal)

/-- The volume `n` holds the word `w b` all over image `b`. -/
def IsWord (n : IVol) (w : Fin 4 → BitVec 32) : Prop := ∀ b o i j, n (ix4 b o i j) = w b

theorem allI_word (a : BitVec 32) : IsWord (allI a) fun _ => a := fun b o i j => by
  unfold allI; pointwise

theorem all_vol {a : BitVec 32} {r : ℝ} (h : (lit a : Ideal .f32) = (r : EReal)) : IsVol (all a) fun _ _ _ _ => r := fun b o i j => by
  unfold all; pointwise; exact h

variable {s t x y z : Vol} {f g fx fy fz : Fin 4 → Fin 4 → Fin 512 → Fin 512 → ℝ} {n k : IVol} {v w : Fin 4 → BitVec 32}

theorem IsVol.add (hs : IsVol s f) (ht : IsVol t g) : IsVol (addf s t) fun b o i j => f b o i j + g b o i j := fun b o i j => by
  show (s _ + t _ : EReal) = _
  rw [hs, ht, EReal.coe_add]
theorem IsVol.sub (hs : IsVol s f) (ht : IsVol t g) : IsVol (subf s t) fun b o i j => f b o i j - g b o i j := fun b o i j => by
  show (s _ - t _ : EReal) = _
  rw [hs, ht, EReal.coe_sub]
theorem IsVol.mul (hs : IsVol s f) (ht : IsVol t g) : IsVol (mulf s t) fun b o i j => f b o i j * g b o i j := fun b o i j => by
  show (s _ * t _ : EReal) = _
  rw [hs, ht, EReal.coe_mul]
theorem IsVol.neg (hs : IsVol s f) : IsVol (Host.negf s) fun b o i j => -f b o i j := fun b o i j => by
  show (-(s _) : EReal) = _
  rw [hs, EReal.coe_neg]
theorem IsVol.congr (hs : IsVol s f) (h : ∀ b o i j, f b o i j = g b o i j) : IsVol s g := fun b o i j => by rw [hs, h]
theorem IsVol.select {m : IVec S4x4x512x512 1} {c : Fin 4 → BitVec 1} (hm : ∀ b o i j, m (ix4 b o i j) = c b) (hs : IsVol s f) (ht : IsVol t g) :
    IsVol (select m s t) fun b o i j => if c b = 1#1 then f b o i j else g b o i j := fun b o i j => by
  show (if m _ = 1#1 then s _ else t _ : EReal) = _
  rw [hs, ht, hm]; exact (apply_ite _ _ _ _).symm

theorem IsWord.add (hn : IsWord n v) (hk : IsWord k w) : IsWord (addi n k) fun b => v b + w b := fun b o i j => by
  show n _ + k _ = _
  rw [hn, hk]

theorem IsVol.ease (ht : IsVol t f) : IsVol (Hand.ease t) fun b o i j => fadeR (f b o i j) :=
  ((((all_vol lit_six).mul (ht.mul ((ht.mul ht).mul (ht.mul ht)))).sub ((all_vol lit_fifteen).mul ((ht.mul ht).mul (ht.mul ht)))).add
    ((all_vol lit_ten).mul ((ht.mul ht).mul ht))).congr fun b o i j => by unfold fadeR; ring

theorem IsVol.lerp (ht : IsVol t f) (hx : IsVol x fx) (hy : IsVol y fy) :
    IsVol (Hand.lerp t x y) fun b o i j => mixR (f b o i j) (fx b o i j) (fy b o i j) :=
  hx.add (ht.mul (hy.sub hx))

theorem IsVol.back (ht : IsVol t f) : IsVol (Hand.back t) fun b o i j => f b o i j - 1 := ht.sub (all_vol lit_one)

theorem IsWord.low (hn : IsWord n w) : IsWord (Hand.low n) fun b => Scalar.andi (w b) 15#32 := fun b o i j => by
  show IntOp.andi (n _) _ = _
  rw [hn, allI_word]; rfl

theorem IsWord.cmp (p) (hn : IsWord n v) (hk : IsWord k w) (b : Fin 4) (o : Fin 4) (i j : Fin 512) :
    cmpi p n k (ix4 b o i j) = Scalar.cmpi p (v b) (w b) := by
  show IntOp.cmpi p (n _) (k _) = _
  rw [hn, hk]; rfl

theorem IsWord.and (hn : IsWord n v) (hk : IsWord k w) : IsWord (andi n k) fun b => Scalar.andi (v b) (w b) := fun b o i j => by
  show IntOp.andi (n _) (k _) = _
  rw [hn, hk]; rfl

theorem IsWord.first (hn : IsWord n w) (hx : IsVol x fx) (hy : IsVol y fy) :
    IsVol (Hand.first n x y) fun b o i j => if firstX (w b) = 1#1 then fx b o i j else fy b o i j :=
  IsVol.select (c := fun b => firstX (w b)) (hn.low.cmp _ (allI_word _)) hx hy

theorem IsWord.second (hn : IsWord n w) (hx : IsVol x fx) (hy : IsVol y fy) (hz : IsVol z fz) :
    IsVol (Hand.second n x y z) fun b o i j =>
      if secondY (w b) = 1#1 then fy b o i j else if secondX (w b) = 1#1 then fx b o i j else fz b o i j :=
  IsVol.select (c := fun b => secondY (w b)) (hn.low.cmp _ (allI_word _)) hy
    (IsVol.select (c := fun b => secondX (w b)) (fun b o i j => by
      show IntOp.ori (cmpi _ _ _ _) (cmpi _ _ _ _) = _
      rw [hn.low.cmp _ (allI_word _), hn.low.cmp _ (allI_word _)]; rfl) hx hz)

theorem IsWord.grad (hn : IsWord n w) (hx : IsVol x fx) (hy : IsVol y fy) (hz : IsVol z fz) :
    IsVol (Hand.grad n x y z) fun b o i j => gradR (w b) (fx b o i j) (fy b o i j) (fz b o i j) :=
  (IsVol.select ((hn.low.and (allI_word _)).cmp _ (allI_word _)) (hn.first hx hy) (hn.first hx hy).neg).add
    (IsVol.select ((hn.low.and (allI_word _)).cmp _ (allI_word _)) (hn.second hx hy hz) (hn.second hx hy hz).neg)

/-! ## Inside one cell -/

/-- A coordinate in [0, 1) is its own fraction, -/
theorem IsVol.frac (ht : IsVol t f) (h : ∀ b o i j, 0 ≤ f b o i j ∧ f b o i j < 1) : IsVol (Hand.frac t) f := fun b o i j => by
  show (t _ - Ideal.liftRound Int.floor (t _) : EReal) = _
  rw [ht]
  show ((f b o i j : ℝ) : EReal) - (((⌊f b o i j⌋ : ℤ) : ℝ) : EReal) = _
  rw [Int.floor_eq_zero_iff.mpr (h b o i j), ← EReal.coe_sub]
  exact congrArg _ (by simp)

/-- and its cell is the cell nought. -/
theorem IsVol.cell (ht : IsVol t f) (h : ∀ b o i j, 0 ≤ f b o i j ∧ f b o i j < 1) : IsWord (Hand.cell t) fun _ => 0#32 := fun b o i j => by
  have hr : rest t (ix4 b o i j) = ((0 : ℝ) : EReal) := by
    unfold rest period
    pointwise
    rw [ht]
    show Ideal.remf (((⌊f b o i j⌋ : ℤ) : ℝ) : EReal) (((255#32 : BitVec 32).toInt : ℝ) : EReal) = _
    rw [Int.floor_eq_zero_iff.mpr (h b o i j)]
    show (if (((255#32 : BitVec 32).toInt : ℤ) : ℝ) = 0 then (⊥ : EReal) else ((_ - _ * (Ideal.truncInt _ : ℝ) : ℝ) : EReal)) = _
    rw [if_neg (by simp)]
    simp [Ideal.truncInt]
  unfold Hand.cell
  pointwise
  rw [hr, all_vol lit_zero]
  simp only [ne_eq, not_true_eq_false, decide_false, BitVec.ofBool_false, IntOp.andi]
  show Ideal.fptosi 32 (if (_ &&& 0#1 : BitVec 1) = 1#1 then (_ : EReal) else (_ : EReal)) = _
  rw [BitVec.and_zero]
  rw [if_neg (by decide)]
  show BitVec.ofInt 32 (max _ (min _ (if (0 : ℝ) ≤ 0 then ⌊(0 : ℝ)⌋ else _))) = _
  simp

/-! ## The table -/

/-- The entry of image `b`'s table at the word `w`, at most its last. -/
def look (p : IVec S4x512 32) (b : Fin 4) (w : BitVec 32) : BitVec 32 := p (ix2 b ⟨min w.toNat 511, by omega⟩)

/-- A lookup at known places below 512 finds the entries there. -/
theorem IsWord.pick (p : IVec S4x512 32) (hn : IsWord n w) (hw : ∀ b, (w b).toNat < 512) : IsWord (Hand.pick p n) fun b => look p b (w b) := fun b o i j => by
  have hi : broadcastInDim S4x4x512x512x1 ![0, 1, 2, 3] bcast_S4x4x512x512_S4x4x512x512x1_0_1_2_3
      (select (cmpi .slt n (allI 0#32)) (addi n (allI 512#32)) n) (ix5 b o i j 0) = w b := by
    pointwise
    rw [hn, allI_word]
    have h0 : ¬ (w b).slt 0#32 := by
      have := hw b
      simp only [BitVec.slt, BitVec.toInt_eq_toNat_cond]
      simp
      omega
    show (if BitVec.ofBool ((w b).slt 0#32) = 1#1 then _ else _) = _
    rw [Bool.eq_false_iff.mpr h0]
    exact if_neg (by decide)
  unfold Hand.pick Host.gather look
  congr 1
  funext a
  refine Fin.ext ?_
  show GatherDims.start _ _ _ a + GatherDims.batchCoord _ _ a + GatherDims.offCoord _ _ a = _
  have h01 : a = (0 : Fin 2) ∨ a = (1 : Fin 2) := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S4x512_S4x4x512x512x1_S4x4x512x512_n_1_0_0_1_4_11.operandBatchingDims from List.mem_singleton.mpr rfl)]
    rfl
  · rw [GatherDims.batchCoord_eq_zero _ _ _ (fun h => by simp [gather_S4x512_S4x4x512x512x1_S4x4x512x512_n_1_0_0_1_4_11] at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S4x512_S4x4x512x512x1_S4x4x512x512_n_1_0_0_1_4_11.startIndexMap from List.mem_singleton.mpr rfl)]
    have hsi : gather_S4x512_S4x4x512x512x1_S4x4x512x512_n_1_0_0_1_4_11.siIdx (ix4 b o i j)
        ⟨List.idxOf (1 : Fin 2) gather_S4x512_S4x4x512x512x1_S4x4x512x512_n_1_0_0_1_4_11.startIndexMap,
          List.idxOf_lt_length_iff.2 (List.mem_singleton.mpr rfl)⟩ = ix5 b o i j 0 := by
      funext c; refine Fin.ext ?_
      match c with
      | ⟨0, _⟩ => rfl
      | ⟨1, _⟩ => rfl
      | ⟨2, _⟩ => rfl
      | ⟨3, _⟩ => rfl
      | ⟨4, _⟩ => rfl
    erw [hsi]
    rw [hi]
    show min (w b).toInt.toNat 511 = min (w b).toNat 511
    rw [BitVec.toInt_eq_toNat_of_lt (by have := hw b; omega)]
    rfl

end Cert.ReferenceIdeal.Hand

end
-- ==== Proof.Reference.lean ====
/- The reference's noise: on coordinates inside the first cell, at every octave, it is the noise of the eight words that
   the image's table holds for that cell. -/
module

public import proofs.«01_k».proof.Proof.Volume
public import proofs.«01_k».proof.Proof.Gen.ReferenceIdeal.Read

@[expose] public section

set_option maxRecDepth 16384

noncomputable section

namespace Cert.ReferenceIdeal.Hand

open Idealize.ShloMosaic Cert.ReferenceIdeal Cert.ReferenceIdeal.Gen Cert.ReferenceIdeal.Read
open Cert.KernelIdeal.Hand (lit lit_zero lit_one lit_six lit_fifteen lit_ten gradR fadeR mixR firstX secondX secondY Words noiseR bit_cases clipE stretchE leastE greatestE)

/-- The words of the first cell's corners in image `b`'s table. -/
def wordsAt (p : IVec S4x512 32) (b : Fin 4) : Words where
  h0 := look p b (look p b (look p b 0#32))
  h1 := look p b (look p b (look p b 1#32))
  h2 := look p b (look p b (look p b 0#32 + 1#32))
  h3 := look p b (look p b (look p b 1#32 + 1#32))
  h4 := look p b (look p b (look p b 0#32) + 1#32)
  h5 := look p b (look p b (look p b 1#32) + 1#32)
  h6 := look p b (look p b (look p b 0#32 + 1#32) + 1#32)
  h7 := look p b (look p b (look p b 1#32 + 1#32) + 1#32)

variable {x y z : FVec Ideal S4x512x512 .f32} {p : IVec S4x512 32} {fx fy fz : Fin 4 → Fin 4 → Fin 512 → Fin 512 → ℝ}
variable {n k : IVol} {w : Fin 4 → BitVec 32}

theorem look_lt (hp : ∀ j, (p j).toNat < 256) (b : Fin 4) (v : BitVec 32) : (look p b v).toNat < 512 := (hp _).trans (by decide)

theorem look_succ_lt (hp : ∀ j, (p j).toNat < 256) (b : Fin 4) (v : BitVec 32) : (look p b v + 1#32).toNat < 512 := by
  have : (look p b v).toNat < 256 := hp _
  rw [BitVec.toNat_add]; simp; omega

/-- A word plus the cell's number is the word. -/
theorem IsWord.add_zero (hn : IsWord n w) (hk : IsWord k fun _ => 0#32) : IsWord (addi n k) w := fun b o i j => by
  rw [hn.add hk]; exact BitVec.add_zero _

theorem IsWord.succ (hn : IsWord n w) : IsWord (addi n (allI 1#32)) fun b => w b + 1#32 := hn.add (allI_word _)

/-- The reference's noise is the noise of the cell's words. -/
theorem noise_vol (hp : ∀ j, (p j).toNat < 256)
    (hx : IsVol (val_main_v14 (F := Ideal) x) fx) (hy : IsVol (val_main_v21 (F := Ideal) y) fy) (hz : IsVol (val_main_v28 (F := Ideal) z) fz)
    (cx : ∀ b o i j, 0 ≤ fx b o i j ∧ fx b o i j < 1) (cy : ∀ b o i j, 0 ≤ fy b o i j ∧ fy b o i j < 1)
    (cz : ∀ b o i j, 0 ≤ fz b o i j ∧ fz b o i j < 1) :
    IsVol (val_main_v467 (F := Ideal) x y z p) fun b o i j => noiseR (wordsAt p b) (fx b o i j) (fy b o i j) (fz b o i j) := by
  have X : IsWord (val_main_v31 (F := Ideal) x) fun _ => 0#32 := hx.cell cx
  have Y : IsWord (val_main_v34 (F := Ideal) y) fun _ => 0#32 := hy.cell cy
  have Z : IsWord (val_main_v37 (F := Ideal) z) fun _ => 0#32 := hz.cell cz
  have X' : IsWord (val_main_v116 (F := Ideal) x) fun _ => 1#32 := X.succ
  have A : IsWord (val_main_v96 (F := Ideal) x y p) fun b => look p b 0#32 := (X.pick p fun _ => by decide).add_zero Y
  have B : IsWord (val_main_v124 (F := Ideal) x y p) fun b => look p b 1#32 := (X'.pick p fun _ => by decide).add_zero Y
  have AA : IsWord (val_main_v104 (F := Ideal) x y z p) fun b => look p b (look p b 0#32) := (A.pick p fun _ => look_lt hp _ _).add_zero Z
  have AB : IsWord (val_main_v114 (F := Ideal) x y z p) fun b => look p b (look p b 0#32 + 1#32) :=
    (A.succ.pick p fun _ => look_succ_lt hp _ _).add_zero Z
  have BA : IsWord (val_main_v132 (F := Ideal) x y z p) fun b => look p b (look p b 1#32) := (B.pick p fun _ => look_lt hp _ _).add_zero Z
  have BB : IsWord (val_main_v142 (F := Ideal) x y z p) fun b => look p b (look p b 1#32 + 1#32) :=
    (B.succ.pick p fun _ => look_succ_lt hp _ _).add_zero Z
  have h0 : IsWord (val_main_v149 (F := Ideal) x y z p) fun b => (wordsAt p b).h0 := AA.pick p fun _ => look_lt hp _ _
  have h1 : IsWord (val_main_v183 (F := Ideal) x y z p) fun b => (wordsAt p b).h1 := BA.pick p fun _ => look_lt hp _ _
  have h2 : IsWord (val_main_v222 (F := Ideal) x y z p) fun b => (wordsAt p b).h2 := AB.pick p fun _ => look_lt hp _ _
  have h3 : IsWord (val_main_v258 (F := Ideal) x y z p) fun b => (wordsAt p b).h3 := BB.pick p fun _ => look_lt hp _ _
  have h4 : IsWord (val_main_v304 (F := Ideal) x y z p) fun b => (wordsAt p b).h4 := AA.succ.pick p fun _ => look_succ_lt hp _ _
  have h5 : IsWord (val_main_v342 (F := Ideal) x y z p) fun b => (wordsAt p b).h5 := BA.succ.pick p fun _ => look_succ_lt hp _ _
  have h6 : IsWord (val_main_v385 (F := Ideal) x y z p) fun b => (wordsAt p b).h6 := AB.succ.pick p fun _ => look_succ_lt hp _ _
  have h7 : IsWord (val_main_v425 (F := Ideal) x y z p) fun b => (wordsAt p b).h7 := BB.succ.pick p fun _ => look_succ_lt hp _ _
  have xf : IsVol (val_main_v39 (F := Ideal) x) fx := hx.frac cx
  have yf : IsVol (val_main_v41 (F := Ideal) y) fy := hy.frac cy
  have zf : IsVol (val_main_v43 (F := Ideal) z) fz := hz.frac cz
  have u : IsVol (val_main_v58 (F := Ideal) x) fun b o i j => fadeR (fx b o i j) := xf.ease
  have v : IsVol (val_main_v73 (F := Ideal) y) fun b o i j => fadeR (fy b o i j) := yf.ease
  have w : IsVol (val_main_v88 (F := Ideal) z) fun b o i j => fadeR (fz b o i j) := zf.ease
  have g0 : IsVol (val_main_v176 (F := Ideal) x y z p) _ := h0.grad xf yf zf
  have g1 : IsVol (val_main_v212 (F := Ideal) x y z p) _ := h1.grad xf.back yf zf
  have g2 : IsVol (val_main_v251 (F := Ideal) x y z p) _ := h2.grad xf yf.back zf
  have g3 : IsVol (val_main_v289 (F := Ideal) x y z p) _ := h3.grad xf.back yf.back zf
  have g4 : IsVol (val_main_v333 (F := Ideal) x y z p) _ := h4.grad xf yf zf.back
  have g5 : IsVol (val_main_v373 (F := Ideal) x y z p) _ := h5.grad xf.back yf zf.back
  have g6 : IsVol (val_main_v416 (F := Ideal) x y z p) _ := h6.grad xf yf.back zf.back
  have g7 : IsVol (val_main_v458 (F := Ideal) x y z p) _ := h7.grad xf.back yf.back zf.back
  have l0 : IsVol (val_main_v215 (F := Ideal) x y z p) _ := u.lerp g0 g1
  have l1 : IsVol (val_main_v292 (F := Ideal) x y z p) _ := u.lerp g2 g3
  have l2 : IsVol (val_main_v295 (F := Ideal) x y z p) _ := v.lerp l0 l1
  have l4 : IsVol (val_main_v376 (F := Ideal) x y z p) _ := u.lerp g4 g5
  have l5 : IsVol (val_main_v461 (F := Ideal) x y z p) _ := u.lerp g6 g7
  have l6 : IsVol (val_main_v464 (F := Ideal) x y z p) _ := v.lerp l4 l5
  exact w.lerp l2 l6

/-! ## The octaves -/

theorem lit_two : (lit 0x40000000#32 : Ideal .f32) = ((2 : ℝ) : EReal) := by
  show Ideal.ofBits .f32 _ = _
  simp [Ideal.ofBits, Ideal.ieee, -EReal.coe_mul]; norm_num
theorem lit_half : (lit 0x3F000000#32 : Ideal .f32) = ((1 / 2 : ℝ) : EReal) := by
  show Ideal.ofBits .f32 _ = _
  simp [Ideal.ofBits, Ideal.ieee, -EReal.coe_mul]; norm_num
theorem lit_hundred : (lit 0x42C80000#32 : Ideal .f32) = ((100 : ℝ) : EReal) := by
  show Ideal.ofBits .f32 _ = _
  simp [Ideal.ofBits, Ideal.ieee, -EReal.coe_mul]; norm_num

/-- The octave's number as a real. -/
theorem octave_number (o : Fin 4) : val_main_v1 (F := Ideal) (ix1 o) = (((o.val : ℝ)) : EReal) := by
  show ((((BitVec.ofNat 32 o.val).toInt : ℤ) : ℝ) : EReal) = _
  congr 1
  fin_cases o <;> simp

/-- The frequency of an octave, -/
theorem frequency (o : Fin 4) : val_main_v3 (F := Ideal) (ix1 o) = (((2 : ℝ) ^ o.val : ℝ) : EReal) := by
  show Ideal.pow (lit 0x40000000#32 : Ideal .f32) (val_main_v1 (F := Ideal) (ix1 o)) = _
  rw [octave_number, lit_two]
  exact congrArg (fun r : ℝ => (r : EReal)) (Real.rpow_natCast _ _)

/-- and its amplitude. -/
theorem amplitude (o : Fin 4) : val_main_v6 (F := Ideal) (ix1 o) = (((1 / 2 : ℝ) ^ o.val : ℝ) : EReal) := by
  show Ideal.pow (lit 0x3F000000#32 : Ideal .f32) (val_main_v1 (F := Ideal) (ix1 o)) = _
  rw [octave_number, lit_half]
  exact congrArg (fun r : ℝ => (r : EReal)) (Real.rpow_natCast _ _)

/-- A coordinate at every octave: times the frequency, over a hundred. -/
def scaled (x : FVec Ideal S4x512x512 .f32) : Vol :=
  Host.divf (mulf
    (broadcastInDim S4x4x512x512 ![0, 1, 2, 3] bcast_S4x1x512x512_S4x4x512x512_0_1_2_3
      (broadcastInDim S4x1x512x512 ![0, 2, 3] bcast_S4x512x512_S4x1x512x512_0_2_3 x))
    (broadcastInDim S4x4x512x512 ![0, 1, 2, 3] bcast_S1x4x1x1_S4x4x512x512_0_1_2_3
      (broadcastInDim S1x4x1x1 ![1, 2, 3] bcast_S4x1x1_S1x4x1x1_1_2_3 (broadcastInDim S4x1x1 ![0] bcast_S4_S4x1x1_0 (val_main_v3 (F := Ideal))))))
    (all 0x42C80000#32)

theorem scaled_vol {f : Fin 4 → Fin 512 → Fin 512 → ℝ} (hx : ∀ b i j, x (ix3 b i j) = ((f b i j : ℝ) : EReal)) :
    IsVol (scaled x) fun b o i j => f b i j * (2 ^ o.val / 100) := fun b o i j => by
  unfold scaled
  pointwise
  rw [hx, frequency, all_vol lit_hundred, Ideal.div_coe (by norm_num), ← EReal.coe_mul, ← EReal.coe_mul]
  exact congrArg _ (by ring)

/-- The amplitudes' sum. -/
theorem amplitudes (i : S_.Idx) : val_main_v472 (F := Ideal) i = ((15 / 8 : ℝ) : EReal) := by
  unfold val_main_v472 val_main_v7
  pointwise
  show (lit 0#32 : Ideal .f32) + _ = _
  simp only [Fin.sum_univ_succ, Fin.sum_univ_zero, amplitude, lit_zero, Fin.val_zero, Fin.val_succ, ← EReal.coe_zero, ← EReal.coe_add]
  exact congrArg _ (by norm_num)

/-- The mean of the octaves' noise by amplitude, to the power one. -/
theorem total_apply {g : Fin 4 → Fin 4 → Fin 512 → Fin 512 → ℝ} (h : IsVol (val_main_v467 (F := Ideal) x y z p) g) (b : Fin 4) (i j : Fin 512) :
    val_main_v476 (F := Ideal) x y z p (ix3 b i j)
      = ((8 / 15 * g b 0 i j + 4 / 15 * g b 1 i j + 2 / 15 * g b 2 i j + 1 / 15 * g b 3 i j : ℝ) : EReal) := by
  have hs : val_main_v471 (F := Ideal) x y z p (ix3 b i j)
      = ((g b 0 i j + 1 / 2 * g b 1 i j + 1 / 4 * g b 2 i j + 1 / 8 * g b 3 i j : ℝ) : EReal) := by
    unfold val_main_v471 val_main_v470 val_main_v469 val_main_v468 val_main_v7
    pointwise
    show (lit 0#32 : Ideal .f32) + _ = _
    simp only [h _ _ _ _, amplitude, lit_zero, ← EReal.coe_mul]
    simp only [Fin.sum_univ_succ, Fin.sum_univ_zero, Fin.val_zero, Fin.val_succ, ← EReal.coe_zero, ← EReal.coe_add]
    exact congrArg (fun r : ℝ => (r : EReal)) (by simp only [Fin.succ_zero_eq_one, Fin.succ_one_eq_two, show Fin.succ (2 : Fin 3) = 3 from rfl]; norm_num; ring)
  unfold val_main_v476 val_main_v475 val_main_v474 val_main_v473
  pointwise
  rw [hs, amplitudes, Ideal.div_coe (by norm_num), ← EReal.coe_mul, show val_main_cst_136 (F := Ideal) ix0 = ((1 : ℝ) : EReal) from lit_one]
  refine (congrArg (fun r : ℝ => (r : EReal)) (Real.rpow_one _)).trans ?_
  exact congrArg _ (by ring)

/-- The image clipped. -/
theorem clip_apply {t : Fin 4 → Fin 512 → Fin 512 → ℝ} (h : ∀ b i j, val_main_v476 (F := Ideal) x y z p (ix3 b i j) = ((t b i j : ℝ) : EReal))
    (b : Fin 4) (i j : Fin 512) : val_main_v477 (F := Ideal) x y z p (ix3 b i j) = clipE (t b i j) := by
  unfold val_main_v477 val_main_call43_v4 val_main_call43_v2 val_main_call43_v1
  pointwise
  rw [h, show val_main_call43_v3 (F := Ideal) ix0 = ((1 : ℝ) : EReal) from lit_one, show val_main_call43_v0 (F := Ideal) ix0 = ((0 : ℝ) : EReal) from lit_zero]
  unfold clipE
  rw [EReal.coe_one, EReal.coe_zero]

end Cert.ReferenceIdeal.Hand

end
-- ==== Proof.Image.lean ====
/- The image the kernel's run leaves: at every grid point the words and the row of coordinates the body finds are those of
   the arguments, so every block of the result, and so the result, is known. -/
module

public import proofs.«01_k».proof.Proof.Run
public import proofs.«01_k».proof.Proof.Reference

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Cert.ReferenceIdeal.Hand (look wordsAt)

/-- The image a grid point draws. -/
def imageOf (i : grid0.Coords) : Fin 4 := ⟨(i 0).val, (i 0).isLt⟩

/-- A word the body reads is the word looked up in the point's image's table. -/
theorem word_eq (i : grid0.Coords) {x0 : Vec Ideal S4x512 .i32} (hx : ∀ j, BitVec.toNat (x0 j) < 256) (w : BitVec 32) {off : Fin 2 → Nat}
    {inb : ∀ a, off a + S1x1.size a ≤ S4x512.size a} (h : off = ![(BitVec.ofNat 32 (i 0).val).toNat, w.toNat]) :
    word x0 off inb = look x0 (imageOf i) w := by
  have hi : (i 0).val < 4 := (i 0).isLt
  have hn : (BitVec.ofNat 32 (i 0).val).toNat = (i 0).val := by rw [BitVec.toNat_ofNat]; omega
  have hw : w.toNat + 1 ≤ 512 := by have := inb 1; rw [h] at this; exact this
  rw [hn] at h
  subst h
  unfold word look
  refine congrArg x0 (funext fun a => Fin.ext ?_)
  have ha : ∀ a : Fin 2, a = 0 ∨ a = 1 := by decide
  rcases ha a with rfl | rfl
  · exact Nat.add_zero _
  · show w.toNat + 1 * 0 = min w.toNat 511
    omega

/-- The words the body chases are those of the first cell's corners. -/
theorem words_eq (i : grid0.Coords) (x0 : Vec Ideal S4x512 .i32) (hx : ∀ j, BitVec.toNat (x0 j) < 256) :
    words i x0 hx = wordsAt x0 (imageOf i) := by
  have A : word x0 (k0_off1 i) (k0_off1_inb i) = look x0 (imageOf i) 0#32 := word_eq i hx _ rfl
  have B : word x0 (k0_off2 i) (k0_off2_inb i) = look x0 (imageOf i) 1#32 := word_eq i hx _ rfl
  have AA : word x0 (k0_off3 i (word x0 (k0_off1 i) (k0_off1_inb i))) (k0_off3_inb i _ (chk1 i (hx _))) = look x0 (imageOf i) (look x0 (imageOf i) 0#32) :=
    (word_eq i hx _ rfl).trans (congrArg (look x0 (imageOf i)) A)
  have AB : word x0 (k0_off4 i (word x0 (k0_off1 i) (k0_off1_inb i))) (k0_off4_inb i _ (chk1 i (hx _))) = look x0 (imageOf i) (look x0 (imageOf i) 0#32 + 1#32) :=
    (word_eq i hx _ rfl).trans (congrArg (fun v => look x0 (imageOf i) (v + 1#32)) A)
  have BA : word x0 (k0_off5 i (word x0 (k0_off2 i) (k0_off2_inb i))) (k0_off5_inb i _ (chk2 i (hx _))) = look x0 (imageOf i) (look x0 (imageOf i) 1#32) :=
    (word_eq i hx _ rfl).trans (congrArg (look x0 (imageOf i)) B)
  have BB : word x0 (k0_off6 i (word x0 (k0_off2 i) (k0_off2_inb i))) (k0_off6_inb i _ (chk2 i (hx _))) = look x0 (imageOf i) (look x0 (imageOf i) 1#32 + 1#32) :=
    (word_eq i hx _ rfl).trans (congrArg (fun v => look x0 (imageOf i) (v + 1#32)) B)
  unfold words chase wordsAt
  dsimp only
  rw [Words.mk.injEq]
  exact ⟨(word_eq i hx _ rfl).trans (congrArg (look x0 (imageOf i)) AA), (word_eq i hx _ rfl).trans (congrArg (look x0 (imageOf i)) BA),
    (word_eq i hx _ rfl).trans (congrArg (look x0 (imageOf i)) AB), (word_eq i hx _ rfl).trans (congrArg (look x0 (imageOf i)) BB),
    (word_eq i hx _ rfl).trans (congrArg (fun v => look x0 (imageOf i) (v + 1#32)) AA), (word_eq i hx _ rfl).trans (congrArg (fun v => look x0 (imageOf i) (v + 1#32)) BA),
    (word_eq i hx _ rfl).trans (congrArg (fun v => look x0 (imageOf i) (v + 1#32)) AB), (word_eq i hx _ rfl).trans (congrArg (fun v => look x0 (imageOf i) (v + 1#32)) BB)⟩

/-- The row of coordinates the body loads from its block is the block's first. -/
theorem coords_apply (x1 : Vec Ideal S1x8x512 .f32) (k : Fin 512) : coords x1 (ix2 0 k) = x1 (ix3 0 0 k) := by
  unfold coords
  pointwise

variable (m : (ℓ : Loc nD τ sig) → Buf (Elt Ideal) ℓ) (hp : Hashes m)

/-- Every grid point finds the whole table, the first block of its image's coordinates and its image of the output. -/
theorem idx : ∀ t : Fin cfg0.N, win0_0.index t = ![0, 0] ∧ win0_1.index t = ![(grid0.coords t 0).val, 0, 0]
    ∧ win0_2.index t = ![(grid0.coords t 0).val, 0, 0] := by decide +kernel

/-- The block of the table is the table. -/
theorem block0 (c : Dev nD) (t : Fin cfg0.N) : iblk m c 0 t = (m ((c : Thread nD τ).loc main_arg3) : Vec Ideal S4x512 .i32) := by
  funext j
  blk_ext [iblk, V, idx t]

/-- The first row of a point's block of coordinates is its image's. -/
theorem block1 (c : Dev nD) (t : Fin cfg0.N) (k : Fin 512) : (iblk m c 1 t : Vec Ideal S1x8x512 .f32) (ix3 0 0 k)
    = (m ((c : Thread nD τ).loc main_arg0) : Vec Ideal S4x512x512 .f32) (ix3 (imageOf (grid0.coords t)) 0 k) := by
  blk_ext [iblk, V, idx t, imageOf]

/-- Where a point's block lies in the output array. -/
theorem emb_apply (t : Fin cfg0.N) (G : Vec Ideal S4x512x512 .f32) (y : S1x512x512.Idx) :
    G (ix3 (imageOf (grid0.coords t)) (y 1) (y 2)) = G (((cfg0.win 2).blk t).view.emb y) := by
  blk_ext [idx t, imageOf]

/-- An index of a block is its row and its column. -/
theorem index_eq (y : S1x512x512.Idx) : ix3 0 (y 1) (y 2) = y := funext fun a => by
  have ha : ∀ a : Fin 3, a = 0 ∨ a = 1 ∨ a = 2 := by decide
  rcases ha a with rfl | rfl | rfl
  · exact Fin.ext (by have := (y 0).isLt; show 0 = (y 0).val; change (y 0).val < 1 at this; omega)
  · rfl
  · rfl

/-- The output array after the run, of the blocks stored. -/
theorem out_eq (c : Dev nD) (G : Vec Ideal S4x512x512 .f32)
    (h : ∀ (t : Fin cfg0.N) (i j : Fin 512), stored m hp c t (ix3 0 i j) = G (ix3 (imageOf (grid0.coords t)) i j)) :
    (dats m hp 0 c).arrAt 2 (cfgs 0).N = G := by
  refine (dats m hp 0 c).arrAt_eq_of_covers 2 _ (by decide +kernel) fun t hf y => ?_
  rw [after0_2]
  have hX := h t
  clear h
  generalize stored m hp c t = X at hX ⊢
  have hx : ∀ y, X ((cfg0.win 2).xinj (cfg0.grid.coords t) y) = X y := fun y => rfl
  have hy : ∀ y : S1x512x512.Idx, X y = G (((cfg0.win 2).blk t).view.emb y) := fun y =>
    (congrArg X (index_eq y)).symm.trans ((hX _ _).trans (emb_apply t G y))
  rw [hx y]
  exact (cast_eq _ _).trans (hy y)

/-- The result after the run: the host lines after the region give every image three equal channels. -/
theorem result_eq (c : Dev nD) (G : Vec Ideal S4x512x512 .f32) (h : (dats m hp 0 c).arrAt 2 (cfgs 0).N = G) (b : Fin 4) (i j : Fin 512) (k : Fin 3) :
    (Pipeline.afterTail₀ cfgs (dats m hp) 0 (V0 m) [hostOps1] c main_v0 : Vec Ideal S4x512x512x3 .f32) (ix4 b i j k) = G (ix3 b i j) := by
  unfold Pipeline.afterTail₀
  have hA : Pipeline.withArrays (cfgs 0).spec c (V0 m c) (fun w => (dats m hp 0 c).arrAt w (cfgs 0).N) (Proc.tc.devRef main_call0_v0) = G :=
    (Pipeline.withArrays_arr (cfgs 0).spec launch0.win.arr_inj c (V0 m c) (fun w => (dats m hp 0 c).arrAt w (cfgs 0).N) 2).trans h
  generalize Pipeline.withArrays (cfgs 0).spec c (V0 m c) (fun w => (dats m hp 0 c).arrAt w (cfgs 0).N) = W at hA ⊢
  simp only [hostOps1, List.flatten_cons, List.flatten_nil, List.append_nil, List.cons_append, List.nil_append]
  after_results
  refine Eq.trans (b := broadcastInDim S4x512x512x3 ![0, 1, 2, 3] bcast_S4x512x512x1_S4x512x512x3_0_1_2_3
            (broadcastInDim S4x512x512x1 ![0, 1, 2] bcast_S4x512x512_S4x512x512x1_0_1_2 G) (ix4 b i j k)) ?_ ?_
  · rw [← hA]; rfl
  · pointwise

/-- Image `b` of a launch whose images' rows of coordinates are `f`. -/
def imageR (p : Vec Ideal S4x512 .i32) (f : Fin 4 → Fin 512 → ℝ) (b : Fin 4) (i j : Fin 512) : ℝ :=
  8 / 15 * noiseR (wordsAt p b) (f b j * (1 / 100)) (f b i * (1 / 100)) (b.val * (1 / 100) * (1 / 100))
  + 4 / 15 * noiseR (wordsAt p b) (f b j * (2 / 100)) (f b i * (2 / 100)) (b.val * (1 / 100) * (2 / 100))
  + 2 / 15 * noiseR (wordsAt p b) (f b j * (4 / 100)) (f b i * (4 / 100)) (b.val * (1 / 100) * (4 / 100))
  + 1 / 15 * noiseR (wordsAt p b) (f b j * (8 / 100)) (f b i * (8 / 100)) (b.val * (1 / 100) * (8 / 100))

/-- The block stored at a grid point is its image. -/
theorem stored_apply (c : Dev nD) {f : Fin 4 → Fin 512 → ℝ}
    (hf : ∀ b k, (m ((c : Thread nD τ).loc main_arg0) : Vec Ideal S4x512x512 .f32) (ix3 b 0 k) = ((f b k : ℝ) : EReal))
    (t : Fin cfg0.N) (i j : Fin 512) : stored m hp c t (ix3 0 i j)
      = stretchE (imageR (m ((c : Thread nD τ).loc main_arg3)) f (imageOf (grid0.coords t))) i j := by
  have hx : IsRow (coords (iblk m c 1 t)) (f (imageOf (grid0.coords t))) := fun k => by
    rw [coords_apply]; exact (block1 m c t k).trans (hf _ k)
  have hw : words (grid0.coords t) (iblk m c 0 t) (table_lt m hp c t) = wordsAt (m ((c : Thread nD τ).loc main_arg3)) (imageOf (grid0.coords t)) :=
    (words_eq _ _ _).trans (congrArg (fun p => wordsAt p _) (block0 m c t))
  unfold stored
  rw [hw, picture_apply _ _ hx]
  rfl

/-- The result of the run: every image, on three equal channels. -/
theorem result_apply (c : Dev nD) {f : Fin 4 → Fin 512 → ℝ}
    (hf : ∀ b k, (m ((c : Thread nD τ).loc main_arg0) : Vec Ideal S4x512x512 .f32) (ix3 b 0 k) = ((f b k : ℝ) : EReal))
    (b : Fin 4) (i j : Fin 512) (k : Fin 3) :
    (Pipeline.afterTail₀ cfgs (dats m hp) 0 (V0 m) [hostOps1] c main_v0 : Vec Ideal S4x512x512x3 .f32) (ix4 b i j k)
      = stretchE (imageR (m ((c : Thread nD τ).loc main_arg3)) f b) i j :=
  result_eq m hp c (fun j => stretchE (imageR (m ((c : Thread nD τ).loc main_arg3)) f (j 0)) (j 1) (j 2))
    (out_eq m hp c _ (stored_apply m hp c hf)) b i j k

end Cert.KernelIdeal.Hand

end
-- ==== Proof.Stretch.lean ====
/- The reference's image: the clipped mean of the octaves, stretched by its least and its greatest value. -/
module

public import proofs.«01_k».proof.Proof.Reference

@[expose] public section

set_option maxRecDepth 16384

noncomputable section

namespace Cert.ReferenceIdeal.Hand

open Idealize.ShloMosaic Cert.ReferenceIdeal Cert.ReferenceIdeal.Gen Cert.ReferenceIdeal.Read
open Cert.KernelIdeal.Hand (clipE stretchE leastE greatestE)

variable {x y z : FVec Ideal S4x512x512 .f32} {p : IVec S4x512 32}

/-- The least value's start, the greatest float, -/
theorem start_least (i : S_.Idx) : val_main_cst_139 (F := Ideal) i = Ideal.ofBits .f32 0x7F800000#32 := rfl

/-- and the greatest's, the least. -/
theorem start_greatest (i : S_.Idx) : val_main_cst_140 (F := Ideal) i = Ideal.ofBits .f32 0xFF800000#32 := rfl

/-- The least value of a clipped image -/
theorem least_apply {t : Fin 4 → Fin 512 → Fin 512 → ℝ} (h : ∀ b i j, val_main_v477 (F := Ideal) x y z p (ix3 b i j) = clipE (t b i j)) (b : Fin 4) :
    val_main_v478 (F := Ideal) x y z p (ix1 b) = leastE (t b) := by
  unfold val_main_v478
  generalize val_main_v477 (F := Ideal) x y z p = q at h ⊢
  pointwise
  simp only [h]
  rw [start_least]
  unfold leastE
  rfl

/-- and the greatest. -/
theorem greatest_apply {t : Fin 4 → Fin 512 → Fin 512 → ℝ} (h : ∀ b i j, val_main_v477 (F := Ideal) x y z p (ix3 b i j) = clipE (t b i j)) (b : Fin 4) :
    val_main_v482 (F := Ideal) x y z p (ix1 b) = greatestE (t b) := by
  unfold val_main_v482
  generalize val_main_v477 (F := Ideal) x y z p = q at h ⊢
  pointwise
  simp only [h]
  rw [start_greatest]
  unfold greatestE
  rfl

/-- The least value is taken twice. -/
theorem least_again : val_main_v483 (F := Ideal) x y z p = val_main_v478 x y z p := by
  unfold val_main_v483 val_main_v478 val_main_cst_141 val_main_cst_139
  with_reducible rfl

/-- The distance of the two. -/
theorem width_apply {t : Fin 4 → Fin 512 → Fin 512 → ℝ} (h : ∀ b i j, val_main_v477 (F := Ideal) x y z p (ix3 b i j) = clipE (t b i j)) (b : Fin 4) :
    val_main_v484 (F := Ideal) x y z p (ix1 b) = greatestE (t b) - leastE (t b) := by
  rw [val_main_v484_apply, least_again, greatest_apply h b, least_apply h b]
  generalize greatestE (t b) = M
  generalize leastE (t b) = L
  rfl

/-- The image less its least value, -/
theorem above_apply {t : Fin 4 → Fin 512 → Fin 512 → ℝ} (h : ∀ b i j, val_main_v477 (F := Ideal) x y z p (ix3 b i j) = clipE (t b i j))
    (b : Fin 4) (i j : Fin 512) : val_main_v481 (F := Ideal) x y z p (ix3 b i j) = clipE (t b i j) - leastE (t b) := by
  have hl : val_main_v480 (F := Ideal) x y z p (ix3 b i j) = val_main_v478 (F := Ideal) x y z p (ix1 b) := by
    unfold val_main_v480 val_main_v479
    generalize val_main_v478 (F := Ideal) x y z p = l
    pointwise
  rw [val_main_v481_apply, hl, h b i j, least_apply h b]
  generalize leastE (t b) = L
  rfl

/-- and the image stretched. -/
theorem stretch_apply {t : Fin 4 → Fin 512 → Fin 512 → ℝ} (h : ∀ b i j, val_main_v477 (F := Ideal) x y z p (ix3 b i j) = clipE (t b i j))
    (b : Fin 4) (i j : Fin 512) : val_main_v487 (F := Ideal) x y z p (ix3 b i j) = stretchE (t b) i j := by
  have hw : val_main_v486 (F := Ideal) x y z p (ix3 b i j) = val_main_v484 (F := Ideal) x y z p (ix1 b) := by
    unfold val_main_v486 val_main_v485
    generalize val_main_v484 (F := Ideal) x y z p = w
    pointwise
  rw [val_main_v487_apply, hw, above_apply h b i j, width_apply h b]
  unfold stretchE
  generalize greatestE (t b) = M
  generalize leastE (t b) = L
  rfl

/-- The result holds the stretched image on all three channels. -/
theorem image_apply {t : Fin 4 → Fin 512 → Fin 512 → ℝ} (h : ∀ b i j, val_main_v476 (F := Ideal) x y z p (ix3 b i j) = ((t b i j : ℝ) : EReal))
    (b : Fin 4) (i j : Fin 512) (c : Fin 3) : val_main_v491 (F := Ideal) x y z p (ix4 b i j c) = stretchE (t b) i j := by
  have h7 := stretch_apply (clip_apply h) b i j
  unfold val_main_v491 val_main_v488 val_main_v489 val_main_v490
  generalize val_main_v487 (F := Ideal) x y z p = q at h7 ⊢
  pointwise
  split_ifs <;> exact h7

end Cert.ReferenceIdeal.Hand

end
-- ==== Proof.Agree.lean ====
/- The kernel's result is the reference's: on a lattice of coordinates and a table of hashes both are the stretched images. -/
module

public import proofs.«01_k».proof.Proof.Image
public import proofs.«01_k».proof.Proof.Stretch
public import proofs.«01_k».proof.Proof.PreLattice

@[expose] public section

set_option maxRecDepth 16384

noncomputable section

namespace Cert.KernelIdeal.Hand

open Idealize.ShloMosaic Idealize.ShloMosaic.TcCoe
open Cert.ReferenceIdeal Cert.ReferenceIdeal.Gen Cert.ReferenceIdeal.Read Cert.ReferenceIdeal.Hand

/-- A number from zero up to a real is a real in that range. -/
theorem exists_real {v : EReal} {r : ℝ} (h0 : 0 ≤ v) (h1 : v < (r : EReal)) : ∃ f : ℝ, v = (f : EReal) ∧ 0 ≤ f ∧ f < r := by
  lift v to ℝ using ⟨(h1.trans (EReal.coe_lt_top r)).ne, (EReal.bot_lt_zero.trans_le h0).ne'⟩
  exact ⟨v, rfl, EReal.coe_nonneg.mp h0, EReal.coe_lt_coe_iff.mp h1⟩

/-- A coordinate below 25/2 is, at every octave, inside the first cell. -/
theorem octave_inside {r : ℝ} (h0 : 0 ≤ r) (h1 : r < 25 / 2) (o : Fin 4) : 0 ≤ r * (2 ^ o.val / 100) ∧ r * (2 ^ o.val / 100) < 1 := by
  have hp : (0 : ℝ) < 2 ^ o.val := by positivity
  have h8 : (2 : ℝ) ^ o.val ≤ 2 ^ 3 := pow_le_pow_right₀ (by norm_num) (by omega)
  exact ⟨by positivity, by nlinarith⟩

variable {x y z : FVec Ideal S4x512x512 .f32} {p : IVec S4x512 32} {f : Fin 4 → Fin 512 → ℝ}

/-- The reference's result on a lattice of coordinates `f`. -/
theorem reference_apply (hp : ∀ j, (p j).toNat < 256) (hx : ∀ b i j, x (ix3 b i j) = ((f b j : ℝ) : EReal)) (hy : ∀ b i j, y (ix3 b i j) = ((f b i : ℝ) : EReal))
    (hz : ∀ b i j, z (ix3 b i j) = (((b.val : ℝ) / 100 : ℝ) : EReal)) (hf : ∀ b k, 0 ≤ f b k ∧ f b k < 25 / 2)
    (b : Fin 4) (i j : Fin 512) (k : Fin 3) : val_main_v491 (F := Ideal) x y z p (ix4 b i j k) = stretchE (imageR p f b) i j := by
  have hb : ∀ b : Fin 4, (0 : ℝ) ≤ b.val / 100 ∧ (b.val : ℝ) / 100 < 25 / 2 := fun b => by
    have : (b.val : ℝ) ≤ 3 := by exact_mod_cast (show b.val ≤ 3 by omega)
    exact ⟨by positivity, by linarith⟩
  have hn := noise_vol hp (scaled_vol hx) (scaled_vol hy) (scaled_vol hz) (fun b o i j => octave_inside (hf b j).1 (hf b j).2 o)
    (fun b o i j => octave_inside (hf b i).1 (hf b i).2 o) (fun b o i j => octave_inside (hb b).1 (hb b).2 o)
  have ht : ∀ b i j, val_main_v476 (F := Ideal) x y z p (ix3 b i j) = ((imageR p f b i j : ℝ) : EReal) := fun b i j => by
    rw [Cert.ReferenceIdeal.Hand.total_apply hn b i j]
    refine congrArg (fun r : ℝ => (r : EReal)) ?_
    unfold imageR
    norm_num [show ((2 : Fin 4) : ℕ) = 2 from rfl, show ((3 : Fin 4) : ℕ) = 3 from rfl]
    ring_nf
  exact image_apply ht b i j k

/-- What the lattice precondition gives of the launch's arguments `x`, `y`, `z`, `p`. -/
def Lattice (x y z : FVec Ideal S4x512x512 .f32) : Prop := ∀ (b : Fin 4) (i j : Fin 512), x (ix3 b i j) = x (ix3 b 0 j)
  ∧ (0 : EReal) ≤ x (ix3 b i j) ∧ x (ix3 b i j) < ((25 / 2 : ℝ) : EReal) ∧ y (ix3 b i j) = x (ix3 b 0 i) ∧ z (ix3 b i j) = (((b.val : ℝ) / 100 : ℝ) : EReal)

variable (m : (ℓ : Loc Cert.KernelIdeal.nD Cert.KernelIdeal.τ Cert.KernelIdeal.sig) → Buf (Elt Ideal) ℓ) (hp : Hashes m)

/-- The kernel's result is the reference's of the same arguments. -/
theorem agree (c : Dev Cert.KernelIdeal.nD)
    (h : Lattice (m ((c : Thread Cert.KernelIdeal.nD Cert.KernelIdeal.τ).loc Cert.KernelIdeal.main_arg0)) (m ((c : Thread Cert.KernelIdeal.nD Cert.KernelIdeal.τ).loc Cert.KernelIdeal.main_arg1))
      (m ((c : Thread Cert.KernelIdeal.nD Cert.KernelIdeal.τ).loc Cert.KernelIdeal.main_arg2))) :
    (Pipeline.afterTail₀ Cert.KernelIdeal.cfgs (dats m hp) 0 (Cert.KernelIdeal.Gen.V0 m) [Cert.KernelIdeal.Gen.hostOps1] c Cert.KernelIdeal.main_v0 : Vec Ideal S4x512x512x3 .f32)
      = val_main_v491 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1))
        (m ((c : Thread Cert.KernelIdeal.nD Cert.KernelIdeal.τ).loc Cert.KernelIdeal.main_arg2)) (m ((c : Thread Cert.KernelIdeal.nD Cert.KernelIdeal.τ).loc Cert.KernelIdeal.main_arg3)) := by
  choose f hf hf0 hf1 using fun b k => exists_real (h b 0 k).2.1 (h b 0 k).2.2.1
  funext i
  have hi : i = ix4 (i 0) (i 1) (i 2) (i 3) := by
    funext a
    have ha : ∀ a : Fin 4, a = 0 ∨ a = 1 ∨ a = 2 ∨ a = 3 := by decide
    rcases ha a with rfl | rfl | rfl | rfl <;> rfl
  rw [hi]
  exact (result_apply m hp c hf _ _ _ _).trans (reference_apply (hp c) (fun b i j => ((h b i j).1).trans (hf b j))
    (fun b i j => ((h b i j).2.2.2.1).trans (hf b i)) (fun b i j => (h b i j).2.2.2.2) (fun b k => ⟨hf0 b k, hf1 b k⟩) _ _ _ _).symm

end Cert.KernelIdeal.Hand

end
-- ==== Proof.lean ====
module

public import proofs.«01_k».proof.Defs
public import proofs.«01_k».proof.Proof.PreLattice
public import proofs.«01_k».proof.Proof.Run
public import proofs.«01_k».proof.Proof.KernelFrame
public import proofs.«01_k».proof.Proof.Agree
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem

/-- The reference runs, its arguments end unchanged, and it has no semaphore. -/
theorem reference_frame (h : Cert.ReferenceIdeal.Facts) : Cert.quiescent_ReferenceIdeal (hReferenceIdeal := h) := fun m g _ =>
  (θ_run _ _ _).mono (fun r h => And.intro (fun c => (h c).2) (sem_eq_zero_of_no_sems (by decide) r.2)) (ReferenceIdeal.Value.run (F := Ideal) m g)

/-- What the lattice precondition says of the arguments on core `c`. -/
theorem lattice_of [Pre_lattice.Facts] {m : (ℓ : Loc KernelIdeal.nD KernelIdeal.τ KernelIdeal.sig) → Buf (Elt Ideal) ℓ} (h : Cert.Pre_KernelIdeal_lattice m) (c : Dev KernelIdeal.nD) :
    KernelIdeal.Hand.Lattice (m ((c.tc : Thread KernelIdeal.nD KernelIdeal.τ).loc KernelIdeal.main_arg0)) (m ((c.tc : Thread KernelIdeal.nD KernelIdeal.τ).loc KernelIdeal.main_arg1))
        (m ((c.tc : Thread KernelIdeal.nD KernelIdeal.τ).loc KernelIdeal.main_arg2))
      ∧ ∀ j, BitVec.toNat ((m ((c.tc : Thread KernelIdeal.nD KernelIdeal.τ).loc KernelIdeal.main_arg3) : IVec KernelIdeal.S4x512 32) j) < 256 :=
  Hand.lattice_reads _ _ _ _ (h c).1 (h c).2

/-- The idealized kernel and the reference end with the same result. -/
theorem algebraic (hL : Cert.Pre_lattice.Facts) :
    Cert.algebraic_KernelIdeal_ReferenceIdeal_pre_lattice (hKernelIdeal := KernelIdeal.Gen.facts) (hReferenceIdeal := ReferenceIdeal.Gen.facts) := fun m g m' g' h hm => by
  have hp : KernelIdeal.Hand.Hashes m := fun c j => (lattice_of h c).2 j
  refine ⟨fun c => Pipeline.afterTail₀ KernelIdeal.cfgs (KernelIdeal.Hand.dats m hp) 0 (KernelIdeal.Gen.V0 m) [KernelIdeal.Gen.hostOps1] c KernelIdeal.main_v0, ?_, ?_⟩
  · exact (θ_run _ _ _).mono (fun r h c => ⟨(h.1 c).2 KernelIdeal.main_v0 (Pipeline.mem_restRefs_of KernelIdeal.main_v0 (by decide) (by decide)), h.2 c⟩)
      (θ_run_and (KernelIdeal.Hand.run_main m g hp) (KernelIdeal.Hand.unchanged m g hp))
  · refine (θ_run _ _ _).mono (fun r hr c => ⟨(hr c).1.trans ?_, (hr c).2⟩) (ReferenceIdeal.Value.run (F := Ideal) m' g')
    obtain ⟨h0, h1, h2, h3⟩ := hm c
    exact (ReferenceIdeal.Read.val_main_v491_eq _).trans ((congr (congr (congr (congrArg (ReferenceIdeal.Read.val_main_v491 (F := Ideal)) h0) h1) h2) h3).trans
      (KernelIdeal.Hand.agree m hp c (lattice_of h c).1).symm)

/-- Everything claimed. -/
theorem claim : Cert.Claim :=
  ⟨Cert.Kernel.Gen.facts, Cert.KernelIdeal.Gen.facts, Cert.ReferenceIdeal.Gen.facts, Cert.Pre_hashes.Gen.facts, Cert.Pre_lattice.Gen.facts,
    fun m g h => Kernel.Hand.frame m g fun c j => Hand.hashes_iff _ _ _ _ (h c) j,
    fun m g h => KernelIdeal.Hand.frame m g fun c j => Hand.hashes_iff _ _ _ _ (h c) j,
    fun m g h => KernelIdeal.Hand.frame m g fun c j => (lattice_of h c).2 j,
    reference_frame _, fun m g _ => reference_frame _ m g trivial,
    ⟨IdealRules.named_const.statement Cert.KernelIdeal.κ "s1" .f32 0x3C23D70A#32 _ rfl,
      IdealRules.named_const.statement Cert.KernelIdeal.κ "a1" .f32 0x3F088889#32 _ rfl,
      IdealRules.named_const.statement Cert.KernelIdeal.κ "s2" .f32 0x3CA3D70A#32 _ rfl,
      IdealRules.named_const.statement Cert.KernelIdeal.κ "a2" .f32 0x3E888889#32 _ rfl,
      IdealRules.named_const.statement Cert.KernelIdeal.κ "s4" .f32 0x3D23D70A#32 _ rfl,
      IdealRules.named_const.statement Cert.KernelIdeal.κ "a4" .f32 0x3E088889#32 _ rfl,
      IdealRules.named_const.statement Cert.KernelIdeal.κ "s8" .f32 0x3DA3D70A#32 _ rfl,
      IdealRules.named_const.statement Cert.KernelIdeal.κ "a8" .f32 0x3D888889#32 _ rfl⟩,
    algebraic _⟩

end Cert.Proof

end
